-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S256x8192 : Shape := ⟨2, ![256, 8192]⟩
abbrev S16x256x256 : Shape := ⟨3, ![16, 256, 256]⟩
abbrev S3x256x8192 : Shape := ⟨3, ![3, 256, 8192]⟩
abbrev S15 : Shape := ⟨1, ![15]⟩
abbrev S16 : Shape := ⟨1, ![16]⟩
abbrev S3 : Shape := ⟨1, ![3]⟩
abbrev S_ : Shape := ⟨0, ![]⟩
abbrev S1 : Shape := ⟨1, ![1]⟩
abbrev S1x256x8192 : Shape := ⟨3, ![1, 256, 8192]⟩
abbrev S256x256 : Shape := ⟨2, ![256, 256]⟩
abbrev S1x256x256 : Shape := ⟨3, ![1, 256, 256]⟩
abbrev S1x256x2048 : Shape := ⟨3, ![1, 256, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S16x256x256, .bf16⟩
  | .local _ .vmem, ⟨3, _⟩ => ⟨S4096x256, .bf16⟩
  | .local _ .vmem, ⟨4, _⟩ => ⟨S3x256x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_60 : BitVec 32 := 16#32
  let v64 : BitVec 32 := Scalar.addi v2 c16_i32_60
  let v65 : BitVec 32 := Scalar.subi v64 c0_i32_61
  let c16_i32_62 : BitVec 32 := 16#32
  let v66 : BitVec 32 := Scalar.remsi v65 c16_i32_62
  let c256_i32 : BitVec 32 := 256#32
  let v67 : BitVec 32 := Scalar.muli v66 c256_i32
  let c0_i32_67 : BitVec 32 := 0#32
  ![v67.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_89 : BitVec 32 := 256#32
  let v97 : BitVec 32 := Scalar.muli v2 c256_i32_89
  let v98 : Index := Scalar.indexCast v97
  let c0_90 : Index := 0#32
  ![v98.toNat, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v100 : Index := Scalar.indexCast v2
  let c0_91 : Index := 0#32
  let c0_92 : Index := 0#32
  ![v100.toNat, 0, 0]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_100 : BitVec 32 := 0#32
  let c0_i32_101 : BitVec 32 := 0#32
  ![v2.toNat, 0, 0]
def k0_off6 (d0 : Dev nD) (c1_i32_94 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v104 : BitVec 32 := Scalar.addi v2 c1_i32_94
  let c16_i32_95 : BitVec 32 := 16#32
  let v105 : BitVec 32 := Scalar.remsi v104 c16_i32_95
  let c256_i32_96 : BitVec 32 := 256#32
  let v106 : BitVec 32 := Scalar.muli v105 c256_i32_96
  let c0_i32_102 : BitVec 32 := 0#32
  ![v106.toNat, 0]
def k0_dev16 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_94 : BitVec 32 := 1#32
  let v104 : BitVec 32 := Scalar.addi v2 c1_i32_94
  let c16_i32_95 : BitVec 32 := 16#32
  let v105 : BitVec 32 := Scalar.remsi v104 c16_i32_95
  let c1_i32_98 : BitVec 32 := 1#32
  let v107 : BitVec 32 := Scalar.muli v105 c1_i32_98
  let v108 : BitVec 32 := Scalar.addi c0_i32_99 v107
  v108.toNat
def k0_dev17 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_103 : BitVec 32 := 2#32
  let v116 : BitVec 32 := Scalar.addi v2 c2_i32_103
  let c16_i32_104 : BitVec 32 := 16#32
  let v117 : BitVec 32 := Scalar.remsi v116 c16_i32_104
  let c1_i32_107 : BitVec 32 := 1#32
  let v119 : BitVec 32 := Scalar.muli v117 c1_i32_107
  let v120 : BitVec 32 := Scalar.addi c0_i32_108 v119
  v120.toNat
def k0_dev18 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_112 : BitVec 32 := 3#32
  let v128 : BitVec 32 := Scalar.addi v2 c3_i32_112
  let c16_i32_113 : BitVec 32 := 16#32
  let v129 : BitVec 32 := Scalar.remsi v128 c16_i32_113
  let c1_i32_116 : BitVec 32 := 1#32
  let v131 : BitVec 32 := Scalar.muli v129 c1_i32_116
  let v132 : BitVec 32 := Scalar.addi c0_i32_117 v131
  v132.toNat
def k0_dev19 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_121 : BitVec 32 := 4#32
  let v140 : BitVec 32 := Scalar.addi v2 c4_i32_121
  let c16_i32_122 : BitVec 32 := 16#32
  let v141 : BitVec 32 := Scalar.remsi v140 c16_i32_122
  let c1_i32_125 : BitVec 32 := 1#32
  let v143 : BitVec 32 := Scalar.muli v141 c1_i32_125
  let v144 : BitVec 32 := Scalar.addi c0_i32_126 v143
  v144.toNat
def k0_dev20 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_130 : BitVec 32 := 5#32
  let v152 : BitVec 32 := Scalar.addi v2 c5_i32_130
  let c16_i32_131 : BitVec 32 := 16#32
  let v153 : BitVec 32 := Scalar.remsi v152 c16_i32_131
  let c1_i32_134 : BitVec 32 := 1#32
  let v155 : BitVec 32 := Scalar.muli v153 c1_i32_134
  let v156 : BitVec 32 := Scalar.addi c0_i32_135 v155
  v156.toNat
def k0_dev21 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_139 : BitVec 32 := 6#32
  let v164 : BitVec 32 := Scalar.addi v2 c6_i32_139
  let c16_i32_140 : BitVec 32 := 16#32
  let v165 : BitVec 32 := Scalar.remsi v164 c16_i32_140
  let c1_i32_143 : BitVec 32 := 1#32
  let v167 : BitVec 32 := Scalar.muli v165 c1_i32_143
  let v168 : BitVec 32 := Scalar.addi c0_i32_144 v167
  v168.toNat
def k0_dev22 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_148 : BitVec 32 := 7#32
  let v176 : BitVec 32 := Scalar.addi v2 c7_i32_148
  let c16_i32_149 : BitVec 32 := 16#32
  let v177 : BitVec 32 := Scalar.remsi v176 c16_i32_149
  let c1_i32_152 : BitVec 32 := 1#32
  let v179 : BitVec 32 := Scalar.muli v177 c1_i32_152
  let v180 : BitVec 32 := Scalar.addi c0_i32_153 v179
  v180.toNat
def k0_dev23 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_157 : BitVec 32 := 8#32
  let v188 : BitVec 32 := Scalar.addi v2 c8_i32_157
  let c16_i32_158 : BitVec 32 := 16#32
  let v189 : BitVec 32 := Scalar.remsi v188 c16_i32_158
  let c1_i32_161 : BitVec 32 := 1#32
  let v191 : BitVec 32 := Scalar.muli v189 c1_i32_161
  let v192 : BitVec 32 := Scalar.addi c0_i32_162 v191
  v192.toNat
def k0_dev24 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_166 : BitVec 32 := 9#32
  let v200 : BitVec 32 := Scalar.addi v2 c9_i32_166
  let c16_i32_167 : BitVec 32 := 16#32
  let v201 : BitVec 32 := Scalar.remsi v200 c16_i32_167
  let c1_i32_170 : BitVec 32 := 1#32
  let v203 : BitVec 32 := Scalar.muli v201 c1_i32_170
  let v204 : BitVec 32 := Scalar.addi c0_i32_171 v203
  v204.toNat
def k0_dev25 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_175 : BitVec 32 := 10#32
  let v212 : BitVec 32 := Scalar.addi v2 c10_i32_175
  let c16_i32_176 : BitVec 32 := 16#32
  let v213 : BitVec 32 := Scalar.remsi v212 c16_i32_176
  let c1_i32_179 : BitVec 32 := 1#32
  let v215 : BitVec 32 := Scalar.muli v213 c1_i32_179
  let v216 : BitVec 32 := Scalar.addi c0_i32_180 v215
  v216.toNat
def k0_dev26 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_184 : BitVec 32 := 11#32
  let v224 : BitVec 32 := Scalar.addi v2 c11_i32_184
  let c16_i32_185 : BitVec 32 := 16#32
  let v225 : BitVec 32 := Scalar.remsi v224 c16_i32_185
  let c1_i32_188 : BitVec 32 := 1#32
  let v227 : BitVec 32 := Scalar.muli v225 c1_i32_188
  let v228 : BitVec 32 := Scalar.addi c0_i32_189 v227
  v228.toNat
def k0_dev27 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_193 : BitVec 32 := 12#32
  let v236 : BitVec 32 := Scalar.addi v2 c12_i32_193
  let c16_i32_194 : BitVec 32 := 16#32
  let v237 : BitVec 32 := Scalar.remsi v236 c16_i32_194
  let c1_i32_197 : BitVec 32 := 1#32
  let v239 : BitVec 32 := Scalar.muli v237 c1_i32_197
  let v240 : BitVec 32 := Scalar.addi c0_i32_198 v239
  v240.toNat
def k0_dev28 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_202 : BitVec 32 := 13#32
  let v248 : BitVec 32 := Scalar.addi v2 c13_i32_202
  let c16_i32_203 : BitVec 32 := 16#32
  let v249 : BitVec 32 := Scalar.remsi v248 c16_i32_203
  let c1_i32_206 : BitVec 32 := 1#32
  let v251 : BitVec 32 := Scalar.muli v249 c1_i32_206
  let v252 : BitVec 32 := Scalar.addi c0_i32_207 v251
  v252.toNat
def k0_dev29 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_211 : BitVec 32 := 14#32
  let v260 : BitVec 32 := Scalar.addi v2 c14_i32_211
  let c16_i32_212 : BitVec 32 := 16#32
  let v261 : BitVec 32 := Scalar.remsi v260 c16_i32_212
  let c1_i32_215 : BitVec 32 := 1#32
  let v263 : BitVec 32 := Scalar.muli v261 c1_i32_215
  let v264 : BitVec 32 := Scalar.addi c0_i32_216 v263
  v264.toNat
def k0_dev30 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_220 : BitVec 32 := 15#32
  let v272 : BitVec 32 := Scalar.addi v2 c15_i32_220
  let c16_i32_221 : BitVec 32 := 16#32
  let v273 : BitVec 32 := Scalar.remsi v272 c16_i32_221
  let c1_i32_224 : BitVec 32 := 1#32
  let v275 : BitVec 32 := Scalar.muli v273 c1_i32_224
  let v276 : BitVec 32 := Scalar.addi c0_i32_225 v275
  v276.toNat
def k0_off7 (d0 : Dev nD) (c0_i32_239 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_238 : BitVec 32 := 16#32
  let v293 : BitVec 32 := Scalar.addi v2 c16_i32_238
  let v294 : BitVec 32 := Scalar.subi v293 c0_i32_239
  let c16_i32_240 : BitVec 32 := 16#32
  let v295 : BitVec 32 := Scalar.remsi v294 c16_i32_240
  let v296 : Index := Scalar.indexCast v295
  let c0_241 : Index := 0#32
  let c0_242 : Index := 0#32
  ![v296.toNat, 0, 0]
def k0_off8 (d0 : Dev nD) (c1_i32_267 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_266 : BitVec 32 := 16#32
  let v322 : BitVec 32 := Scalar.addi v2 c16_i32_266
  let v323 : BitVec 32 := Scalar.subi v322 c1_i32_267
  let c16_i32_268 : BitVec 32 := 16#32
  let v324 : BitVec 32 := Scalar.remsi v323 c16_i32_268
  ![v324.toNat]
def k0_off9 (d0 : Dev nD) (c1_i32_267 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_266 : BitVec 32 := 16#32
  let v322 : BitVec 32 := Scalar.addi v2 c16_i32_266
  let v323 : BitVec 32 := Scalar.subi v322 c1_i32_267
  let c16_i32_268 : BitVec 32 := 16#32
  let v324 : BitVec 32 := Scalar.remsi v323 c16_i32_268
  let c0_i32_272 : BitVec 32 := 0#32
  let c0_i32_273 : BitVec 32 := 0#32
  ![v324.toNat, 0, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
# The all-to-all's protocol: buffers, cells, contents, schedule

Sixteen devices. Device `c` holds a block of columns of `x` and all of `w`; it casts its block of `x`, cuts it into
sixteen row blocks, keeps row block `c` and sends row block `p` to device `p`; what it has received is then multiplied,
block by block, with the row blocks of `w`, which it streams through three slots.

For every semaphore of device `c`: who waits, who pays, how much, and what each landing hands over.

* The barrier cell. Round 0: every other device `p` pays one unit (its entry signal) and hands over slot `c` of ITS
  receive buffer, at whatever that holds: `c` may then transfer into it. `c` waits for the fifteen units.
* The receive cell `k` (`k ≠ c`). Round 0: device `k`'s transfer pays the block's credit; the landing hands `c` slot `k`
  of its own receive buffer holding row block `c` of `k`'s cast block. `c` waits for it before it reads slot `k`.
* The send cell `j`. Round 0: `c`'s own transfer to the device `j + 1` places up pays the block's credit; the landing
  hands back the row block sent. `c` waits for it at the end.
* The three cells of the streamed row blocks of `w` are nobody else's: they stay in `c`'s hands (local transfers).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Transfers
public import Idealize.ShloMosaic.Lib.Ring
public import Idealize.ShloMosaic.Lib.Rounds
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds, the all-to-all's rounds, the local transfers' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The all-to-all's rounds sit in the left of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the local transfers. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around the ring -/

/-- The device `d` places up from `c`; -/
def up (c : Dev nD) (d : ℕ) : Dev nD := ⟨(c.val + d) % 16, Nat.mod_lt _ (by decide)⟩
/-- the device `u` places down from `c` (`u ≤ 16`): whose block `c` multiplies at step `u`. -/
def dn (c : Dev nD) (u : ℕ) : Dev nD := ⟨(c.val + 16 - u) % 16, Nat.mod_lt _ (by decide)⟩

theorem dn_zero (c : Dev nD) : dn c 0 = c := Fin.ext (by have := c.isLt; simp only [dn]; change c.val < 16 at this; omega)
theorem up_ne (c : Dev nD) {d : ℕ} (h1 : 1 ≤ d) (h2 : d < 16) : up c d ≠ c := fun h => by
  have := congrArg Fin.val h; have hc := c.isLt; change c.val < 16 at hc; simp only [up] at this; omega
theorem dn_ne (c : Dev nD) {d : ℕ} (h1 : 1 ≤ d) (h2 : d < 16) : dn c d ≠ c := fun h => by
  have := congrArg Fin.val h; have hc := c.isLt; change c.val < 16 at hc; simp only [dn] at this; omega
theorem dn_up (c : Dev nD) {d : ℕ} (h2 : d ≤ 16) : dn (up c d) d = c := Fin.ext (by
  have hc := c.isLt; change c.val < 16 at hc; simp only [up, dn]; omega)
theorem up_dn (c : Dev nD) {d : ℕ} (h2 : d ≤ 16) : up (dn c d) d = c := Fin.ext (by
  have hc := c.isLt; change c.val < 16 at hc; simp only [up, dn]; omega)
theorem up_inj (c : Dev nD) {d d' : ℕ} (h : d < 16) (h' : d' < 16) (e : up c d = up c d') : d = d' := by
  have := congrArg Fin.val e; have hc := c.isLt; change c.val < 16 at hc; simp only [up] at this; omega
theorem dn_inj (c : Dev nD) {d d' : ℕ} (h : d < 16) (h' : d' < 16) (e : dn c d = dn c d') : d = d' := by
  have := congrArg Fin.val e; have hc := c.isLt; change c.val < 16 at hc; simp only [dn] at this; omega

/-! ## The buffers and their blocks -/

abbrev xM : Memref sig .tc .vmem S4096x256 .f32 := Memref.whole cc0_stg0_0
abbrev oM : Memref sig .tc .vmem S256x8192 .f32 := Memref.whole cc0_stg1_0
abbrev bufM : Memref sig .tc .vmem S16x256x256 .bf16 := Memref.whole cc0_scratch0
abbrev sndM : Memref sig .tc .vmem S4096x256 .bf16 := Memref.whole cc0_scratch1
abbrev wslM : Memref sig .tc .vmem S3x256x8192 .f32 := Memref.whole cc0_scratch2
abbrev wM : Memref sig .tc .hbm S4096x8192 .f32 := Memref.whole main_arg1

/-- Slot `k` of the receive buffer, as a block of the buffer and as the matrix the transfers name. -/
abbrev bufBlk (off : Fin 3 → ℕ) (inb : ∀ a, off a + S1x256x256.size a ≤ S16x256x256.size a) : Memref sig .tc .vmem S1x256x256 .bf16 :=
  bufM.slice (Rect.unit (s := S16x256x256) off S1x256x256.size inb) (fun _ => rfl)
abbrev bufMat (off : Fin 3 → ℕ) (inb : ∀ a, off a + S1x256x256.size a ≤ S16x256x256.size a) : Memref sig .tc .vmem S256x256 .bf16 :=
  (bufBlk off inb).squeeze S256x256 squeezes_S1x256x256_S256x256
/-- A row block of the send buffer; -/
abbrev sndBlk (off : Fin 2 → ℕ) (inb : ∀ a, off a + S256x256.size a ≤ S4096x256.size a) : Memref sig .tc .vmem S256x256 .bf16 :=
  sndM.slice (Rect.unit (s := S4096x256) off S256x256.size inb) (fun _ => rfl)
/-- a row block of `w`; -/
abbrev wBlk (off : Fin 2 → ℕ) (inb : ∀ a, off a + S256x8192.size a ≤ S4096x8192.size a) : Memref sig .tc .hbm S256x8192 .f32 :=
  wM.slice (Rect.unit (s := S4096x8192) off S256x8192.size inb) (fun _ => rfl)
/-- a slot of the streamed row blocks. -/
abbrev wslMat (off : Fin 3 → ℕ) (inb : ∀ a, off a + S1x256x8192.size a ≤ S3x256x8192.size a) : Memref sig .tc .vmem S256x8192 .f32 :=
  (wslM.slice (Rect.unit (s := S3x256x8192) off S1x256x8192.size inb) (fun _ => rfl)).squeeze S256x8192 squeezes_S1x256x8192_S256x8192

theorem slot_inb (k : Fin 16) : ∀ a : Fin 3, (![k.val, 0, 0] : Fin 3 → ℕ) a + S1x256x256.size a ≤ S16x256x256.size a := by
  intro a; have := k.isLt; fin_cases a
  · show k.val + 1 ≤ 16; omega
  · show 0 + 256 ≤ 256; omega
  · show 0 + 256 ≤ 256; omega
theorem row_inb (k : Fin 16) : ∀ a : Fin 2, (![256 * k.val, 0] : Fin 2 → ℕ) a + S256x256.size a ≤ S4096x256.size a := by
  intro a; have := k.isLt; fin_cases a
  · show 256 * k.val + 256 ≤ 4096; omega
  · show 0 + 256 ≤ 256; omega
theorem wrow_inb (k : Fin 16) : ∀ a : Fin 2, (![256 * k.val, 0] : Fin 2 → ℕ) a + S256x8192.size a ≤ S4096x8192.size a := by
  intro a; have := k.isLt; fin_cases a
  · show 256 * k.val + 256 ≤ 4096; omega
  · show 0 + 8192 ≤ 8192; omega
theorem wsl_inb (k : Fin 3) : ∀ a : Fin 3, (![k.val, 0, 0] : Fin 3 → ℕ) a + S1x256x8192.size a ≤ S3x256x8192.size a := by
  intro a; have := k.isLt; fin_cases a
  · show k.val + 1 ≤ 3; omega
  · show 0 + 256 ≤ 256; omega
  · show 0 + 8192 ≤ 8192; omega

abbrev slotM (k : Fin 16) : Memref sig .tc .vmem S256x256 .bf16 := bufMat ![k.val, 0, 0] (slot_inb k)
abbrev rowM (k : Fin 16) : Memref sig .tc .vmem S256x256 .bf16 := sndBlk ![256 * k.val, 0] (row_inb k)
abbrev wrowM (k : Fin 16) : Memref sig .tc .hbm S256x8192 .f32 := wBlk ![256 * k.val, 0] (wrow_inb k)
abbrev wslotM (k : Fin 3) : Memref sig .tc .vmem S256x8192 .f32 := wslMat ![k.val, 0, 0] (wsl_inb k)

/-! ## The cells -/

abbrev barS : Sem sig := (SemArray.scalar (sig.barrier 0 rfl) : Sems sig S_).sem
def sendS (j : Fin 15) : DmaSem sig := ⟨2 + j.val, by have := j.isLt; show 2 + j.val < 36; omega⟩
def recvS (k : Fin 16) : DmaSem sig := ⟨17 + k.val, by have := k.isLt; show 17 + k.val < 36; omega⟩
def wS (s : Fin 3) : DmaSem sig := ⟨33 + s.val, by have := s.isLt; show 33 + s.val < 36; omega⟩

abbrev barCell (c : Dev nD) : GSem nD τ sig := ((c : Thread nD τ), .reg barS)
abbrev sendCell (c : Dev nD) (j : Fin 15) : GSem nD τ sig := ((c : Thread nD τ), .dma (sendS j))
abbrev recvCell (c : Dev nD) (k : Fin 16) : GSem nD τ sig := ((c : Thread nD τ), .dma (recvS k))

/-- One cell of three kinds: the barrier, the sends, the receives. -/
abbrev KI : Type := Unit ⊕ (Fin 15 ⊕ Fin 16)
def csem : KI → SemLoc sig
  | .inl _ => .reg barS
  | .inr (.inl j) => .dma (sendS j)
  | .inr (.inr k) => .dma (recvS k)
def kcell (ck : Dev nD × KI) : GSem nD τ sig := ((ck.1 : Thread nD τ), csem ck.2)

/-- The credit of one block's transfer, and of one streamed row block's. -/
abbrev N : ℕ := (slotM 0).view.dmaCredit
theorem N_pos : 0 < N := View.dmaCredit_pos _ (by decide)
abbrev NW : ℕ := (wslotM 0).view.dmaCredit
theorem NW_pos : 0 < NW := View.dmaCredit_pos _ (by decide)

/-! ## Contents -/

/-- Device `c`'s block of `x` as the launch stages it, and `w`. -/
def xstg (c : Dev nD) : (cc0_stg0_0 : Ref sig .tc).ty.Contents (Elt F) :=
  (win0_0.blk (0 : Fin 1)).view.read (Elt F) ((s₀ m ρ).mem ((c : Thread nD τ).loc main_arg0))
def wAt (c : Dev nD) : Buf (Elt F) ((c : Thread nD τ).loc main_arg1) := m ((c : Thread nD τ).loc main_arg1)

/-- The cast block, which the send buffer holds. -/
def snd (c : Dev nD) : (cc0_scratch1 : Ref sig .tc).ty.Contents (Elt F) := k0_pay1 (xstg m ρ c)
/-- Row block `k` of it. -/
def blk (c : Dev nD) (k : Fin 16) : Vec F S256x256 .bf16 := (rowM k).view.read (Elt F) (snd m ρ c)
/-- Row block `k` of device `c`'s `w`. -/
def wrow (c : Dev nD) (k : Fin 16) : Vec F S256x8192 .f32 := (wrowM k).view.read (Elt F) (wAt m c)

/-- Slot `k` of `p`'s receive buffer, at whatever it holds; -/
def slotAny (p : Dev nD) (k : Fin 16) : sProp 𝕄 := iprop(∃ X, owns (p : Thread nD τ) (slotM k) fullShare X)
/-- slot `k` of `c`'s receive buffer with what device `k` sends it; -/
def slotFull (c : Dev nD) (k : Fin 16) : sProp 𝕄 := owns (c : Thread nD τ) (slotM k) fullShare (blk m ρ k c)
/-- row block `k` of `c`'s send buffer. -/
def rowFull (c : Dev nD) (k : Fin 16) : sProp 𝕄 := owns (c : Thread nD τ) (rowM k) fullShare (blk m ρ c k)

/-! ## The schedule -/

/-- One round, round 0, as the head of this file states it. Receive cell `c` of device `c` has no duty (nobody sends to itself). -/
def Rd : Rounds.Schedule (GSem nD τ sig) (Dev nD) 𝕄 where
  duties g r :=
    if r = 0 ∧ g.1.2 = .tc then
      match g.2 with
      | .reg s => if s = barS then Finset.univ.erase g.1.1 else ∅
      | .dma q => if q.val < 17 then {g.1.1} else if q.val < 33 ∧ q.val ≠ 17 + g.1.1.val then {up 0 (q.val - 17)} else ∅
    else ∅
  unitless _ := False
  amount g _ _ := match g.2 with
    | .reg _ => 1
    | .dma _ => N
  payload g _ d := match g.2 with
    | .reg _ => slotAny d g.1.1
    | .dma q => if q.val < 17 then rowFull m ρ g.1.1 (up g.1.1 (q.val - 1)) else slotFull m ρ g.1.1 (up 0 (q.val - 17))
  amount_pos g _ _ _ := by
    split
    · exact Nat.one_pos
    · exact N_pos

instance Rd_payload_storable (g : GSem nD τ sig) (r : ℕ) (d : Dev nD) :
    BI.Storable (upEmb : UEmb _ 𝕄) ((Rd (F := F) m ρ).payload g r d) := by
  obtain ⟨t, s⟩ := g
  cases s with
  | reg s => show BI.Storable upEmb (slotAny d t.1); unfold slotAny; infer_instance
  | dma q =>
    show BI.Storable upEmb (if q.val < 17 then rowFull m ρ t.1 (up t.1 (q.val - 1)) else slotFull m ρ t.1 (up 0 (q.val - 17)))
    unfold rowFull slotFull
    split <;> infer_instance

section Sched
variable (c : Dev nD)

theorem up_zero_val (k : Fin 16) : up 0 ((recvS k).val - 17) = k := Fin.ext (by
  have := k.isLt; show (0 + (17 + k.val - 17)) % 16 = k.val; omega)

omit [FloatOps F] in
theorem recv_not_lt (k : Fin 16) : ¬ (recvS k).val < 17 := by show ¬ 17 + k.val < 17; omega
omit [FloatOps F] in
theorem send_lt (j : Fin 15) : (sendS j).val < 17 := by have := j.isLt; show 2 + j.val < 17; omega

theorem duties_bar : (Rd (F := F) m ρ).duties (barCell c) 0 = Finset.univ.erase c := by
  dsimp only [Rd]; rw [if_pos ⟨rfl, rfl⟩, if_pos rfl]
theorem duties_send (j : Fin 15) : (Rd (F := F) m ρ).duties (sendCell c j) 0 = {c} := by
  dsimp only [Rd]; rw [if_pos ⟨rfl, rfl⟩, if_pos (send_lt j)]
theorem duties_recv (k : Fin 16) (hk : k ≠ c) : (Rd (F := F) m ρ).duties (recvCell c k) 0 = {k} := by
  dsimp only [Rd]
  rw [if_pos ⟨rfl, rfl⟩, if_neg (recv_not_lt k), if_pos ⟨by have := k.isLt; show 17 + k.val < 33; omega, fun h => hk (Fin.ext (by
    change 17 + k.val = 17 + c.val at h; omega))⟩, up_zero_val]
theorem duties_recv_self : (Rd (F := F) m ρ).duties (recvCell c c) 0 = ∅ := by
  dsimp only [Rd]
  rw [if_pos ⟨rfl, rfl⟩, if_neg (recv_not_lt c), if_neg (fun h => h.2 rfl)]
theorem duties_later (g : GSem nD τ sig) : ∀ r, 1 ≤ r → (Rd (F := F) m ρ).duties g r = ∅ :=
  fun r hr => by dsimp only [Rd]; rw [if_neg fun h => by omega]
theorem duties_self (r : ℕ) : (Rd (F := F) m ρ).duties (recvCell c c) r = ∅ := by
  rcases Nat.eq_zero_or_pos r with rfl | h
  · exact duties_recv_self m ρ c
  · exact duties_later m ρ _ r h

theorem amount_bar (d : Dev nD) : (Rd (F := F) m ρ).amount (barCell c) 0 d = 1 := rfl
theorem amount_dma (q : DmaSem sig) (d : Dev nD) : (Rd (F := F) m ρ).amount ((c : Thread nD τ), .dma q) 0 d = N := rfl

theorem payload_bar (d : Dev nD) : (Rd (F := F) m ρ).payload (barCell c) 0 d = slotAny d c := rfl
theorem payload_send (j : Fin 15) (d : Dev nD) : (Rd (F := F) m ρ).payload (sendCell c j) 0 d = rowFull m ρ c (up c (j.val + 1)) := by
  dsimp only [Rd]; rw [if_pos (send_lt j), show (sendS j).val - 1 = j.val + 1 from by show 2 + j.val - 1 = _; omega]
theorem payload_recv (k : Fin 16) (d : Dev nD) : (Rd (F := F) m ρ).payload (recvCell c k) 0 d = slotFull m ρ c k := by
  dsimp only [Rd]; rw [if_neg (recv_not_lt k), up_zero_val]

theorem expect_bar : (Rd (F := F) m ρ).expect (barCell c) 0 = 15 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]; rfl
theorem expect_send (j : Fin 15) : (Rd (F := F) m ρ).expect (sendCell c j) 0 = N := by
  unfold Schedule.expect Schedule.amountOf; rw [duties_send, Finset.sum_singleton, amount_dma]
theorem expect_recv (k : Fin 16) (hk : k ≠ c) : (Rd (F := F) m ρ).expect (recvCell c k) 0 = N := by
  unfold Schedule.expect Schedule.amountOf; rw [duties_recv m ρ c k hk, Finset.sum_singleton, amount_dma]

/-- What the barrier's round hands over: slot `c` of every other device's receive buffer. -/
theorem rest_bar : bigSep ((Rd (F := F) m ρ).duties (barCell c) 0 \ ∅) (fun d => (Rd (F := F) m ρ).payload (barCell c) 0 d)
    = bigSep (Finset.univ.erase c) fun d => slotAny (F := F) d c := by
  rw [Finset.sdiff_empty, duties_bar]; rfl
theorem rest_send (j : Fin 15) : bigSep ((Rd (F := F) m ρ).duties (sendCell c j) 0 \ ∅) (fun d => (Rd (F := F) m ρ).payload (sendCell c j) 0 d)
    = rowFull m ρ c (up c (j.val + 1)) := by
  rw [Finset.sdiff_empty, duties_send, bigSep_singleton, payload_send]
theorem rest_recv (k : Fin 16) (hk : k ≠ c) :
    bigSep ((Rd (F := F) m ρ).duties (recvCell c k) 0 \ ∅) (fun d => (Rd (F := F) m ρ).payload (recvCell c k) 0 d) = slotFull m ρ c k := by
  rw [Finset.sdiff_empty, duties_recv m ρ c k hk, bigSep_singleton, payload_recv]

end Sched

/-! ## What each core owes at launch; the levels -/

/-- The devices `d` places up for `d ≥ i`: their receive cells' credits, which `c`'s transfers pay, -/
def oweRecv (c : Dev nD) (i : ℕ) : CellTallies nD τ sig Unit := ∑ d ∈ Finset.Ico i 16, tallyAt (recvCell (up c d) c) () N
/-- and a unit each of their barrier cells, which `c`'s signals pay. -/
def oweBar (c : Dev nD) (i : ℕ) : CellTallies nD τ sig Unit := ∑ d ∈ Finset.Ico i 16, tallyAt (barCell (up c d)) () 1
def O₀ (c : Dev nD) : CellTallies nD τ sig Unit := oweRecv c 1 + oweBar c 1

theorem oweRecv_succ (c : Dev nD) {i : ℕ} (h : i < 16) : oweRecv c i = oweRecv c (i + 1) + tallyAt (recvCell (up c i) c) () N := by
  unfold oweRecv; rw [Ring.sum_Ico_succ h, add_comm]
theorem oweBar_succ (c : Dev nD) {i : ℕ} (h : i < 16) : oweBar c i = oweBar c (i + 1) + tallyAt (barCell (up c i)) () 1 := by
  unfold oweBar; rw [Ring.sum_Ico_succ h, add_comm]
theorem oweRecv_end (c : Dev nD) : oweRecv c 16 = 0 := by unfold oweRecv; rw [Finset.Ico_self, Finset.sum_empty]
theorem oweBar_end (c : Dev nD) : oweBar c 16 = 0 := by unfold oweBar; rw [Finset.Ico_self, Finset.sum_empty]

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => if 17 ≤ q.val ∧ q.val < 33 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 16) (u : Unit) : lv (recvCell c k) u = 2 := by
  dsimp only [lv]; rw [if_pos]; have := k.isLt; exact ⟨by show 17 ≤ 17 + k.val; omega, by show 17 + k.val < 33; omega⟩
theorem lv_stage (c : Dev nD) (q : DmaSem sig) (hq : q.val < 17) (u : Unit) : lv ((c : Thread nD τ), .dma q) u = 0 := by
  dsimp only [lv]; rw [if_neg (fun h => by omega)]

/-- A sum of tallies is positive only at a cell of one of them. -/
theorem sum_tally_pos {S : Finset ℕ} {f : ℕ → GSem nD τ sig} {n : ℕ} {g : GSem nD τ sig} {u : Unit}
    (h : 0 < (∑ d ∈ S, tallyAt (f d) () n : CellTallies nD τ sig Unit) g u) : ∃ d ∈ S, g = f d := by
  by_contra hn
  push Not at hn
  rw [Finset.sum_apply, Finsupp.finset_sum_apply, Finset.sum_eq_zero (fun d hd => by
    rw [tallyAt_apply, if_neg (fun h' => hn d hd h'.1)])] at h
  exact Nat.lt_irrefl 0 h

theorem oweRecv_pos {c : Dev nD} {i : ℕ} {g : GSem nD τ sig} {u : Unit} (h : 0 < oweRecv c i g u) : ∃ p : Dev nD, g = recvCell p c := by
  obtain ⟨d, -, e⟩ := sum_tally_pos h; exact ⟨_, e⟩
theorem O₀_pos {c : Dev nD} {g : GSem nD τ sig} {u : Unit} (h : 0 < O₀ c g u) :
    (∃ p : Dev nD, g = recvCell p c) ∨ ∃ p : Dev nD, g = barCell p := by
  unfold O₀ at h
  rw [Pi.add_apply, Finsupp.add_apply] at h
  rcases Nat.eq_zero_or_pos (oweRecv c 1 g u) with h0 | h0
  · rw [h0, Nat.zero_add] at h
    obtain ⟨d, -, e⟩ := sum_tally_pos h; exact Or.inr ⟨_, e⟩
  · exact Or.inl (oweRecv_pos h0)

theorem mayWait_stage (c : Dev nD) (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by rw [Finset.mem_singleton.mp hp, lv_stage c q hq])
      (fun g u hg => by
        rcases O₀_pos hg with ⟨p, rfl⟩ | ⟨p, rfl⟩
        · rw [lv_recv]; decide
        · rw [lv_bar]; decide)
  · rw [MayWait_zero]; iintro -; iempintro

/-- At its barrier wait a device owes receive credits only: above its barrier cell. -/
theorem mayWait_bar (c : Dev nD) (i : ℕ) : (levAts L lv : sProp 𝕄) ⊢ MayWait (c : Thread nD τ) (.reg barS) () (oweRecv c i) :=
  MayOwe.of_cut (L := L) (lev := lv) 1 (fun p hp => by rw [Finset.mem_singleton.mp hp, L_tc]; exact Finset.mem_singleton_self _)
    (fun g u hg => by obtain ⟨p, rfl⟩ := oweRecv_pos hg; exact Finset.mem_singleton_self _)
    (fun p hp => by rw [Finset.mem_singleton.mp hp, lv_bar])
    (fun g u hg => by obtain ⟨p, rfl⟩ := oweRecv_pos hg; rw [lv_recv]; decide)

end Cert.A2A
-- ==== Proof.Steps.lean ====
/-
# The steps of a device's run

What the device holds before and after each kind of operation, and one lemma per kind: the entry signal, the wait on the
barrier, the start of a streamed row block of `w` and the wait for it, the transfer of a block to a device above, the wait
for a block from a device below, the reads of the two, and the wait for a transfer to have left. Each takes the operation
as the program writes it (its offset, its device, its semaphore) with what that is equal to.
-/
module

public import proofs.«01_k».proof.Proof.Protocol
public import Idealize.SL.BI.BigOpNat
public import Idealize.ShloMosaic.Lib.Pipeline.Value

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg) (K : Dev nD × KI → ℕ)

/-- The run of a program on device `c`'s core. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The devices at a distance -/

/-- The index of the send cell used at distance `d`, and of the slot used at step `u`. -/
def sj (d : ℕ) : Fin 15 := ⟨(d + 14) % 15, Nat.mod_lt _ (by decide)⟩
def wj (u : ℕ) : Fin 3 := ⟨u % 3, Nat.mod_lt _ (by decide)⟩

theorem sj_succ {d : ℕ} (h1 : 1 ≤ d) (h2 : d < 16) : (sj d).val + 1 = d := by simp only [sj]; omega
theorem wj_add (u : ℕ) : wj (u + 3) = wj u := Fin.ext (Nat.add_mod_right u 3)

theorem map_up (c : Dev nD) : (Finset.Ico 1 16).image (up c) = Finset.univ.erase c := by
  ext p
  simp only [Finset.mem_image, Finset.mem_Ico, Finset.mem_erase, Finset.mem_univ, and_true]
  constructor
  · rintro ⟨d, ⟨h1, h2⟩, rfl⟩; exact up_ne c h1 h2
  · intro h
    have hp := p.isLt; have hc := c.isLt
    change p.val < 16 at hp; change c.val < 16 at hc
    have hne : p.val ≠ c.val := fun e => h (Fin.ext e)
    exact ⟨(p.val + 16 - c.val) % 16, by omega, Fin.ext (by simp only [up]; omega)⟩
theorem map_dn (c : Dev nD) : (Finset.Ico 0 16).image (dn c) = Finset.univ := by
  ext p
  simp only [Finset.mem_image, Finset.mem_Ico, Finset.mem_univ, iff_true]
  have hp := p.isLt; have hc := c.isLt
  change p.val < 16 at hp; change c.val < 16 at hc
  exact ⟨(c.val + 16 - p.val) % 16, by omega, Fin.ext (by simp only [dn]; omega)⟩
theorem map_dn_one (c : Dev nD) : (Finset.Ico 1 16).image (dn c) = Finset.univ.erase c := by
  ext p
  simp only [Finset.mem_image, Finset.mem_Ico, Finset.mem_erase, Finset.mem_univ, and_true]
  constructor
  · rintro ⟨d, ⟨h1, h2⟩, rfl⟩; exact dn_ne c h1 h2
  · intro h
    have hp := p.isLt; have hc := c.isLt
    change p.val < 16 at hp; change c.val < 16 at hc
    have hne : p.val ≠ c.val := fun e => h (Fin.ext e)
    exact ⟨(c.val + 16 - p.val) % 16, by omega, Fin.ext (by simp only [dn]; omega)⟩

/-- A conjunction over an injective image. -/
theorem bigSep_image_inj {I J : Type} [DecidableEq J] {S : Finset I} {g : I → J} (hg : ∀ a ∈ S, ∀ b ∈ S, g a = g b → a = b) (A : J → sProp 𝕄) :
    bigSep (S.image g) A = bigSep S fun i => A (g i) := by
  unfold bigSep
  exact Finset.fold_image hg

theorem bigSep_up (c : Dev nD) (A : Dev nD → sProp 𝕄) : bigSep (Finset.univ.erase c) A = bigSep (Finset.Ico 1 16) fun d => A (up c d) := by
  rw [← map_up c]
  exact bigSep_image_inj (fun a ha b hb h => up_inj c (Finset.mem_Ico.mp ha).2 (Finset.mem_Ico.mp hb).2 h) A
theorem bigSep_dn (c : Dev nD) (A : Dev nD → sProp 𝕄) : bigSep Finset.univ A = bigSep (Finset.Ico 0 16) fun d => A (dn c d) := by
  rw [← map_dn c]
  exact bigSep_image_inj (fun a ha b hb h => dn_inj c (Finset.mem_Ico.mp ha).2 (Finset.mem_Ico.mp hb).2 h) A
theorem bigSep_dn_one (c : Dev nD) (A : Dev nD → sProp 𝕄) : bigSep (Finset.univ.erase c) A = bigSep (Finset.Ico 1 16) fun d => A (dn c d) := by
  rw [← map_dn_one c]
  exact bigSep_image_inj (fun a ha b hb h => dn_inj c (Finset.mem_Ico.mp ha).2 (Finset.mem_Ico.mp hb).2 h) A

/-! ## What a device holds -/

/-- What the device owes, whatever it has waited on. -/
def Ow (c : Dev nD) (O : CellTallies nD τ sig Unit) : sProp 𝕄 := iprop(∃ W : Waits sig Unit, owes (c : Thread nD τ) O W)

/-- Every cell's record, and that its round 0 is reached. -/
def records : sProp 𝕄 :=
  iprop(bigSep Finset.univ (fun ck : Dev nD × KI => cellInv ER (Rd (F := F) m ρ) (K ck) (kcell ck))
    ∗ bigSep Finset.univ (fun ck : Dev nD × KI => (reached ER (kcell ck) 0 : sProp 𝕄)))

instance records_persistent : BI.Persistent (records (F := F) m ρ K) := by unfold records; infer_instance

theorem records_inv (ck : Dev nD × KI) : records (F := F) m ρ K ⊢ cellInv ER (Rd (F := F) m ρ) (K ck) (kcell ck) :=
  Laws.sep_and.trans (and_elimL.trans (bigSep_elim (Finset.mem_univ ck)))
theorem records_reached (ck : Dev nD × KI) : records (F := F) m ρ K ⊢ (reached ER (kcell ck) 0 : sProp 𝕄) :=
  Laws.sep_and.trans (and_elimR.trans (bigSep_elim (Finset.mem_univ ck)))

/-- Before the entry signals at distances `i` and above. -/
def SigSt (c : Dev nD) (i : ℕ) : sProp 𝕄 :=
  iprop(Ow c (oweRecv c 1 + oweBar c i) ∗ bigSep (Finset.Ico i 16) fun d => iprop(dutyTok ER (barCell (up c d)) 0 c ∗ slotAny c (up c d)))

/-- Before the transfers at distances `i` and above. -/
def SendSt (c : Dev nD) (i : ℕ) : sProp 𝕄 :=
  iprop(Ow c (oweRecv c i)
    ∗ bigSep (Finset.Ico i 16) (fun d => iprop(rowFull m ρ c (up c d) ∗ slotAny (up c d) c
        ∗ dutyTok ER (sendCell c (sj d)) 0 c ∗ dutyTok ER (recvCell (up c d) c) 0 c))
    ∗ bigSep (Finset.Ico 1 i) fun d => cred (tallyAt (sendCell c (sj d)) () N))

/-- Before the waits at distances `i` and above for the transfers to have left. -/
def LeftSt (c : Dev nD) (i : ℕ) : sProp 𝕄 :=
  iprop(bigSep (Finset.Ico i 16) (fun d => iprop(cred (tallyAt (sendCell c (sj d)) () N) ∗ atPos ER (sendCell c (sj d)) 0 ∅ 0))
    ∗ bigSep (Finset.Ico 1 i) fun d => iprop(atPos ER (sendCell c (sj d)) 1 ∅ 0 ∗ rowFull m ρ c (up c d)))

/-- Before the waits at distances `u` and above for the blocks from below. -/
def RecvSt (c : Dev nD) (u : ℕ) : sProp 𝕄 :=
  iprop(bigSep (Finset.Ico u 16) (fun d => iprop(cred (tallyAt (recvCell c (dn c d)) () N) ∗ atPos ER (recvCell c (dn c d)) 0 ∅ 0))
    ∗ bigSep (Finset.Ico 1 u) fun d => iprop(slotFull m ρ c (dn c d) ∗ atPos ER (recvCell c (dn c d)) 1 ∅ 0))

/-- The row block of `w` for step `u`; the slot of step `u`, at whatever it holds and holding that row block. -/
def wsrc (c : Dev nD) (u : ℕ) : sProp 𝕄 := iprop((wrowM (dn c u)).view.loc (c : Thread nD τ) ↦[(wrowM (dn c u)).view.set]{fullShare} wAt m c)
def wany (c : Dev nD) (u : ℕ) : sProp 𝕄 :=
  iprop((∃ X, owns (c : Thread nD τ) (wslotM (wj u)) fullShare X) ∗ semVal ((c : Thread nD τ), .dma (wS (wj u))) 0)
def wfull (c : Dev nD) (u : ℕ) : sProp 𝕄 := owns (c : Thread nD τ) (wslotM (wj u)) fullShare (wrow m c (dn c u))

/-- `s` row blocks of `w` started, `n` of them waited for and done with. -/
def WSt (c : Dev nD) (s n : ℕ) : sProp 𝕄 :=
  iprop(bigSep (Finset.Ico s 16) (wsrc m c)
    ∗ bigSep (Finset.Ico n s) (fun u => Flight EC (c : Thread nD τ) (.dma (wS (wj u))) () NW iprop(wfull m c u ∗ wsrc m c u))
    ∗ bigSep (Finset.Ico 0 n) (wsrc m c)
    ∗ bigSep (Finset.Ico s (n + 3)) (wany (F := F) c))
/-- The same with row block `n` just waited for and in use. -/
def WUse (c : Dev nD) (s n : ℕ) : sProp 𝕄 :=
  iprop(bigSep (Finset.Ico s 16) (wsrc m c)
    ∗ bigSep (Finset.Ico (n + 1) s) (fun u => Flight EC (c : Thread nD τ) (.dma (wS (wj u))) () NW iprop(wfull m c u ∗ wsrc m c u))
    ∗ bigSep (Finset.Ico 0 (n + 1)) (wsrc m c)
    ∗ bigSep (Finset.Ico s (n + 3)) (wany (F := F) c)
    ∗ semVal ((c : Thread nD τ), .dma (wS (wj n))) 0)

/-! ## The entry signals and the wait on the barrier -/

section Steps
variable (c : Dev nD) {α : Type}

theorem step_signal (i : ℕ) (h1 : 1 ≤ i) (h2 : i < 16) {p : Dev nD} (hp : p = up c i) {n : ℤ} (hn : n = ((1 : ℕ) : ℤ))
    {Q : α → sProp 𝕄} {k : PUnit → Prog (TpuEff nD τ sig (Elt F) Λ₀ .tc) α} :
    records (F := F) m ρ K ⊢ iprop(SigSt c i -∗ (SigSt c (i + 1) -∗ run c (k ⟨⟩) Q) -∗ run c (.op (.semSignal (p, .tc) barS n) k) Q) := by
  subst hp hn
  unfold SigSt Ow
  rw [bigSep_Ico_succ_bot h2]
  iintro #Hrec ⟨⟨%W, HO⟩, ⟨Ht, Hs⟩, Hrest⟩ Hk
  iapply (Rounds.wp_signal 𝒱₀ ER (Rd (F := F) m ρ) (c : Thread nD τ) none (dst := (up c i : Thread nD τ)) (κ := K (up c i, .inl ()))
      (d := c) (by rw [duties_bar]; exact Finset.mem_erase.mpr ⟨(up_ne c h1 h2).symm, Finset.mem_univ _⟩) (amount_bar m ρ (up c i) c) () (O₀ := oweRecv c 1 + oweBar c i)
      (oweRecv c 1 + oweBar c (i + 1)) (by rw [oweBar_succ c h2, add_assoc])) $$ [HO Ht Hs]
  · isplitr; · iapply (records_inv m ρ K (up c i, .inl ())); iexact Hrec
    isplitl [HO]; · iexact HO
    isplitl [Ht]; · iexact Ht
    isplitl [Hs]; · rw [payload_bar]; iexact Hs
    iapply (records_reached m ρ K (up c i, .inl ())); iexact Hrec
  iintro HO
  iapply Hk
  isplitl [HO]; · iexists W; iexact HO
  iexact Hrest

theorem step_barWait {n : ℤ} (hn : n = ((15 : ℕ) : ℤ)) {Q : α → sProp 𝕄} {k : PUnit → Prog (TpuEff nD τ sig (Elt F) Λ₀ .tc) α} :
    records (F := F) m ρ K ⊢ iprop(iprop(Ow c (oweRecv c 1) ∗ levAts L lv ∗ cred (tallyAt (barCell c) () 15) ∗ atPos ER (barCell c) 0 ∅ 0)
      -∗ (iprop(Ow c (oweRecv c 1) ∗ atPos ER (barCell c) 1 ∅ 0 ∗ bigSep (Finset.Ico 1 16) (fun d => slotAny (F := F) (up c d) c)) -∗ run c (k ⟨⟩) Q)
      -∗ run c (.op (.semWait barS n) k) Q) := by
  subst hn
  unfold Ow
  iintro #Hrec ⟨⟨%W, HO⟩, #Hlev, Hc, Hat⟩ Hk
  iapply (Rounds.wp_wait_rest_token 𝒱₀ ER (Rd (F := F) m ρ) (c : Thread nD τ) none (κ := K (c, .inl ()))
      (wpE_semWait_eq 𝒱₀ (c : Thread nD τ) none Set.univ) (Set.mem_univ _) () (O := oweRecv c 1) (W := W) (R := 0) (m := 0) (T := ∅)
      (by rw [expect_bar])) $$ [Hc HO Hat]
  · isplitr; · iapply (records_inv m ρ K (c, .inl ())); iexact Hrec
    isplitl [Hc]; · iexact Hc
    isplitl [HO]; · iexact HO
    isplitr; · iapply (mayWait_bar c 1); iexact Hlev
    iexact Hat
  iintro ⟨HO, Hat, -, Hpay⟩
  ihave Hpay := (Entails.of_eq ((rest_bar m ρ c).trans (bigSep_up c _))) $$ Hpay
  iapply Hk
  isplitl [HO]; · iexists _; iexact HO
  isplitl [Hat]; · iexact Hat
  iexact Hpay

/-! ## The transfers -/

theorem amount_slot (k : Fin 16) (q : DmaSem sig) : (slotM k).view.amount (.dma q) = N := rfl
theorem amount_wslot (k : Fin 3) (q : DmaSem sig) : (wslotM k).view.amount (.dma q) = NW := rfl

/-- What a transfer hands back, and what it lands. -/
theorem sent_back (i : ℕ) (h1 : 1 ≤ i) (h2 : i < 16) {fs : Buf (Elt F) ((rowM (up c i)).view.loc (c : Thread nD τ))}
    (hfs : (rowM (up c i)).view.read (Elt F) fs = blk m ρ c (up c i)) :
    ((rowM (up c i)).view.loc (c : Thread nD τ) ↦[(rowM (up c i)).view.set]{fullShare} fs : sProp 𝕄) ⊢ (Rd (F := F) m ρ).payload (sendCell c (sj i)) 0 c := by
  rw [payload_send, sj_succ h1 h2]; unfold rowFull; rw [← hfs]; exact owns_intro _ _ _ _
theorem landed (i : ℕ) {fs : Buf (Elt F) ((rowM (up c i)).view.loc (c : Thread nD τ))}
    (hfs : (rowM (up c i)).view.read (Elt F) fs = blk m ρ c (up c i)) (fd : Buf (Elt F) ((slotM c).view.loc (up c i : Thread nD τ))) :
    ((slotM c).view.loc (up c i : Thread nD τ) ↦[(slotM c).view.set]{fullShare}
        (slotM c).view.write (Elt F) fd ((rowM (up c i)).view.read (Elt F) fs) Finset.univ : sProp 𝕄)
      ⊢ (Rd (F := F) m ρ).payload (recvCell (up c i) c) 0 c := by
  rw [payload_recv]; unfold slotFull
  refine (owns_intro _ _ _ _).trans (Entails.of_eq ?_)
  rw [View.read_write_univ, hfs]
theorem landed_w (s : ℕ) (fd : Buf (Elt F) ((wslotM (wj s)).view.loc (c : Thread nD τ))) :
    (iprop(((wslotM (wj s)).view.loc (c : Thread nD τ) ↦[(wslotM (wj s)).view.set]{fullShare}
        (wslotM (wj s)).view.write (Elt F) fd (ReadAs.same.apply ((wrowM (dn c s)).view.read (Elt F) (wAt m c))) Finset.univ)
      ∗ ((wrowM (dn c s)).view.loc (c : Thread nD τ) ↦[(wrowM (dn c s)).view.set]{fullShare} wAt m c)) : sProp 𝕄)
      ⊢ iprop(wfull m c s ∗ wsrc m c s) := by
  unfold wfull wsrc
  refine sep_mono_left ((owns_intro _ _ _ _).trans (Entails.of_eq ?_))
  rw [View.read_write_univ]; rfl

theorem send_core (i : ℕ) (h1 : 1 ≤ i) (h2 : i < 16) {hsc} {hsrc} {hdst} {hsem} {Q : α → sProp 𝕄} {k : PUnit → Prog (TpuEff nD τ sig (Elt F) Λ₀ .tc) α}
    {fs : Buf (Elt F) ((rowM (up c i)).view.loc (c : Thread nD τ))} (hfs : (rowM (up c i)).view.read (Elt F) fs = blk m ρ c (up c i))
    (fd : Buf (Elt F) ((slotM c).view.loc (up c i : Thread nD τ))) (W : Waits sig Unit) :
    iprop(cellInv ER (Rd (F := F) m ρ) (K (c, .inr (.inl (sj i)))) (sendCell c (sj i))
        ∗ cellInv ER (Rd (F := F) m ρ) (K (up c i, .inr (.inr c))) (recvCell (up c i) c)
        ∗ ((rowM (up c i)).view.loc (c : Thread nD τ) ↦[(rowM (up c i)).view.set]{fullShare} fs)
        ∗ ((slotM c).view.loc (up c i : Thread nD τ) ↦[(slotM c).view.set]{fullShare} fd)
        ∗ owes (c : Thread nD τ) (oweRecv c i) W
        ∗ dutyTok ER (sendCell c (sj i)) 0 c ∗ reached ER (sendCell c (sj i)) 0
        ∗ dutyTok ER (recvCell (up c i) c) 0 c ∗ reached ER (recvCell (up c i) c) 0)
      ⊢ iprop(((cred (tallyAt (sendCell c (sj i)) () N) ∗ owes (c : Thread nD τ) (oweRecv c (i + 1)) W) -∗ run c (k ⟨⟩) Q)
          -∗ run c (.op (.enqueueDma (rowM (up c i)) (.remote (up c i : Thread nD τ) (slotM c) (.dma (sendS (sj i))) hsc) (.dma (recvS c)) hsrc hdst hsem) k) Q) :=
  Rounds.wp_send_pointsTo 𝒱₀ ER (Rd (F := F) m ρ) (c : Thread nD τ) none (κ₁ := K (c, .inr (.inl (sj i)))) (κ₂ := K (up c i, .inr (.inr c)))
    (r₁ := 0) (r₂ := 0) (d₁ := c) (d₂ := c) (fs := fs) (fd := fd)
    (by rw [duties_send]; exact Finset.mem_singleton_self _) (by rw [duties_recv m ρ (up c i) c (up_ne c h1 h2).symm]; exact Finset.mem_singleton_self _)
    () () N (amount_slot c _) (amount_dma m ρ c _ c) (amount_dma m ρ (up c i) _ c) (oweRecv c (i + 1)) (oweRecv_succ c h2) (W := W)
    (sent_back m ρ c i h1 h2 hfs) (landed m ρ c i hfs fd)

theorem step_send (i : ℕ) (h1 : 1 ≤ i) (h2 : i < 16) {p : Dev nD} (hp : p = up c i) {offs : Fin 2 → ℕ} (ho : offs = ![256 * (up c i).val, 0]) {inbs}
    {offd : Fin 3 → ℕ} (hd : offd = ![c.val, 0, 0]) {inbd} {sS sR : DmaSem sig} (hS : sS = sendS (sj i)) (hR : sR = recvS c)
    {hsc} {hsrc} {hdst} {hsem} {Q : α → sProp 𝕄} {k : PUnit → Prog (TpuEff nD τ sig (Elt F) Λ₀ .tc) α} :
    records (F := F) m ρ K ⊢ iprop(SendSt m ρ c i -∗ (SendSt m ρ c (i + 1) -∗ run c (k ⟨⟩) Q)
      -∗ run c (.op (.enqueueDma (sndBlk offs inbs) (.remote (p : Thread nD τ) (bufMat offd inbd) (.dma sS) hsc) (.dma sR) hsrc hdst hsem) k) Q) := by
  subst hp ho hd hS hR
  unfold SendSt Ow
  rw [bigSep_Ico_succ_bot h2, bigSep_Ico_succ_top h1]
  unfold rowFull slotAny owns
  iintro #Hrec ⟨⟨%W, HO⟩, ⟨⟨⟨%fs, %hfs, Hsrc⟩, ⟨%X, %fd, %hfd, Hdst⟩, HtS, HtR⟩, Hrest⟩, Hcr⟩ Hk
  iapply (send_core m ρ K c i h1 h2 hfs fd W) $$ [Hsrc Hdst HO HtS HtR]
  · isplitr; · iapply (records_inv m ρ K (c, .inr (.inl (sj i)))); iexact Hrec
    isplitr; · iapply (records_inv m ρ K (up c i, .inr (.inr c))); iexact Hrec
    isplitl [Hsrc]; · iexact Hsrc
    isplitl [Hdst]; · iexact Hdst
    isplitl [HO]; · iexact HO
    isplitl [HtS]; · iexact HtS
    isplitr; · iapply (records_reached m ρ K (c, .inr (.inl (sj i)))); iexact Hrec
    isplitl [HtR]; · iexact HtR
    iapply (records_reached m ρ K (up c i, .inr (.inr c))); iexact Hrec
  iintro ⟨Hc, HO⟩
  iapply Hk
  isplitl [HO]; · iexists W; iexact HO
  isplitl [Hrest]; · iexact Hrest
  isplitl [Hc] <;> iassumption

theorem step_left (i : ℕ) (h1 : 1 ≤ i) (h2 : i < 16) {sS : DmaSem sig} (hS : sS = sendS (sj i))
    {sp' : Space} {s' : Shape} {e' : EltTy} {srcw : Memref sig .tc sp' s' e'} {off : Fin 2 → ℕ} {inb}
    {hsrc} {hdst} {Q : α → sProp 𝕄} {k : PUnit → Prog (TpuEff nD τ sig (Elt F) Λ₀ .tc) α} :
    records (F := F) m ρ K ⊢ iprop(iprop(LeftSt m ρ c i ∗ Ow c 0) -∗ (iprop(LeftSt m ρ c (i + 1) ∗ Ow c 0) -∗ run c (k ⟨⟩) Q)
      -∗ run c (.op (.waitDma2 sS srcw (sndBlk off inb) hsrc hdst) k) Q) := by
  have hN : (sndBlk off inb).view.dmaCredit = N := rfl
  subst hS
  unfold LeftSt Ow
  rw [bigSep_Ico_succ_bot h2, bigSep_Ico_succ_top h1]
  iintro #Hrec ⟨⟨⟨⟨Hc, Hat⟩, Hrest⟩, Hdone⟩, %W, HO⟩ Hk
  iapply (Rounds.wp_wait_rest_token 𝒱₀ ER (Rd (F := F) m ρ) (c : Thread nD τ) none (κ := K (c, .inr (.inl (sj i))))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (records_inv m ρ K (c, .inr (.inl (sj i)))); iexact Hrec
    isplitl [Hc]; · rw [hN]; iexact Hc
    isplitl [HO]; · iexact HO
    isplitr; · rw [MayWait_zero]; iempintro
    iexact Hat
  iintro ⟨HO, Hat, -, Hpay⟩
  ihave Hpay := (Entails.of_eq ((rest_send m ρ c (sj i)).trans (by rw [sj_succ h1 h2]))) $$ Hpay
  iapply Hk
  isplitr [HO]
  · isplitl [Hrest]; · iexact Hrest
    isplitr [Hdone]
    · isplitl [Hat]; · iexact Hat
      iexact Hpay
    · iexact Hdone
  · iexists _; iexact HO

theorem step_recv (u : ℕ) (h1 : 1 ≤ u) (h2 : u < 16) {sR : DmaSem sig} (hR : sR = recvS (dn c u))
    {sp' : Space} {s' : Shape} {e' : EltTy} {srcw : Memref sig .tc sp' s' e'} {off : Fin 3 → ℕ} {inb}
    {hsrc} {hdst} {Q : α → sProp 𝕄} {k : PUnit → Prog (TpuEff nD τ sig (Elt F) Λ₀ .tc) α} :
    records (F := F) m ρ K ⊢ iprop(iprop(RecvSt m ρ c u ∗ Ow c 0) -∗ (iprop(RecvSt m ρ c (u + 1) ∗ Ow c 0) -∗ run c (k ⟨⟩) Q)
      -∗ run c (.op (.waitDma2 sR srcw (bufMat off inb) hsrc hdst) k) Q) := by
  have hN : (bufMat off inb).view.dmaCredit = N := rfl
  subst hR
  unfold RecvSt Ow
  rw [bigSep_Ico_succ_bot h2, bigSep_Ico_succ_top h1]
  iintro #Hrec ⟨⟨⟨⟨Hc, Hat⟩, Hrest⟩, Hdone⟩, %W, HO⟩ Hk
  iapply (Rounds.wp_wait_rest_token 𝒱₀ ER (Rd (F := F) m ρ) (c : Thread nD τ) none (κ := K (c, .inr (.inr (dn c u))))
      (wpE_waitDma2_eq 𝒱₀ (c : Thread nD τ) none Set.univ) (Set.mem_univ _) () (O := 0) (W := W) (R := 0) (m := 0) (T := ∅)
      (by rw [Nat.zero_add, expect_recv m ρ c _ (dn_ne c h1 h2), hN])) $$ [Hc HO Hat]
  · isplitr; · iapply (records_inv m ρ K (c, .inr (.inr (dn c u)))); iexact Hrec
    isplitl [Hc]; · rw [hN]; iexact Hc
    isplitl [HO]; · iexact HO
    isplitr; · rw [MayWait_zero]; iempintro
    iexact Hat
  iintro ⟨HO, Hat, -, Hpay⟩
  ihave Hpay := (Entails.of_eq (rest_recv m ρ c _ (dn_ne c h1 h2))) $$ Hpay
  iapply Hk
  isplitr [HO]
  · isplitl [Hrest]; · iexact Hrest
    isplitr [Hdone]
    · isplitr [Hat]
      · iexact Hpay
      · iexact Hat
    · iexact Hdone
  · iexists _; iexact HO

/-! ## The streamed row blocks of `w` -/

theorem step_wstart (s n : ℕ) (hs : s < 16) (hn : n ≤ s) (hsn : s < n + 3) {offs : Fin 2 → ℕ} (ho : offs = ![256 * (dn c s).val, 0]) {inbs}
    {offd : Fin 3 → ℕ} (hd : offd = ![(wj s).val, 0, 0]) {inbd} {sm : DmaSem sig} (hS : sm = wS (wj s))
    {hsrc} {hdst} {hsem} {Q : α → sProp 𝕄} {k : PUnit → Prog (TpuEff nD τ sig (Elt F) Λ₀ .tc) α} :
    WSt m c s n ⊢ iprop((WSt m c (s + 1) n -∗ run c (k ⟨⟩) Q)
      -∗ run c (.op (.enqueueDma (wBlk offs inbs) (.here (wslMat offd inbd)) (.dma sm) hsrc hdst hsem) k) Q) := by
  subst ho hd hS
  unfold WSt
  rw [bigSep_Ico_succ_bot hs, bigSep_Ico_succ_top hn, bigSep_Ico_succ_bot hsn]
  unfold wany owns
  iintro ⟨⟨Hsrc, Hsrcs⟩, Hfl, Hback, ⟨⟨%X, %fd, %hfd, Hdst⟩, Hv⟩, Hany⟩ Hk
  iapply (Transfers.wp_dmaLocal EC 𝒱₀ (c : Thread nD τ) none (src := wrowM (dn c s)) (dst := wslotM (wj s)) (q := fullShare) (fs := wAt m c) (fd := fd) () NW (amount_wslot _ _) NW_pos
      (Finset.Subset.refl _)) $$ [Hsrc Hdst Hv]
  · isplitl [Hsrc]; · unfold wsrc; iexact Hsrc
    isplitl [Hdst] <;> iassumption
  iintro Hf
  iapply Hk
  isplitl [Hsrcs]; · iexact Hsrcs
  isplitr [Hback Hany]
  · isplitr [Hfl]
    · iapply (Transfers.Flight_mono EC (c : Thread nD τ) (landed_w m c s fd)) $$ Hf
    · iexact Hfl
  isplitl [Hback] <;> iassumption

theorem step_wwait (s n : ℕ) (hn : n < s) {sm : DmaSem sig} (hS : sm = wS (wj n))
    {sp' : Space} {s' : Shape} {e' : EltTy} {srcw : Memref sig .tc sp' s' e'} {off : Fin 3 → ℕ} {inb}
    {hsrc} {hdst} {Q : α → sProp 𝕄} {k : PUnit → Prog (TpuEff nD τ sig (Elt F) Λ₀ .tc) α} :
    iprop(WSt m c s n ∗ Ow c 0) ⊢ iprop((iprop(WUse m c s n ∗ wfull m c n ∗ Ow c 0) -∗ run c (k ⟨⟩) Q)
      -∗ run c (.op (.waitDma2 sm srcw (wslMat off inb) hsrc hdst) k) Q) := by
  have hN : (wslMat off inb).view.dmaCredit = NW := rfl
  subst hS
  unfold WSt WUse Ow
  rw [bigSep_Ico_succ_bot hn, bigSep_Ico_succ_top (Nat.zero_le n)]
  iintro ⟨⟨Hsrcs, ⟨Hf, Hfl⟩, Hback, Hany⟩, %W, HO⟩ Hk
  iapply (Transfers.wp_waitLocal EC 𝒱₀ (c : Thread nD τ) none () hN) $$ [Hf HO]
  · isplitl [Hf] <;> iassumption
  iintro ⟨⟨Hw, Hs⟩, Hv, HO⟩
  iapply Hk
  isplitr [Hw HO]
  · isplitl [Hsrcs]; · iexact Hsrcs
    isplitl [Hfl]; · iexact Hfl
    isplitl [Hs Hback]; · isplitl [Hs] <;> iassumption
    isplitl [Hany] <;> iassumption
  · isplitl [Hw]; · iexact Hw
    iexists _; iexact HO

theorem w_release (s n : ℕ) (h : s ≤ n + 3) : iprop(WUse m c s n ∗ wfull m c n) ⊢ WSt m c s (n + 1) := by
  unfold WSt WUse
  rw [show n + 1 + 3 = (n + 3) + 1 from rfl, bigSep_Ico_succ_top h]
  iintro ⟨⟨Hsrcs, Hfl, Hback, Hany, Hv⟩, Hw⟩
  isplitl [Hsrcs]; · iexact Hsrcs
  isplitl [Hfl]; · iexact Hfl
  isplitl [Hback]; · iexact Hback
  isplitr [Hany]
  · ihave Hw := (Entails.of_eq (show wfull m c n = owns (c : Thread nD τ) (wslotM (wj (n + 3))) fullShare (wrow m c (dn c n)) from by rw [wj_add n]; rfl)) $$ Hw
    ihave Hv := (Entails.of_eq (show (semVal ((c : Thread nD τ), .dma (wS (wj n))) 0 : sProp 𝕄) = semVal ((c : Thread nD τ), .dma (wS (wj (n + 3)))) 0 from by rw [wj_add n])) $$ Hv
    unfold wany
    isplitr [Hv]; · iexists _; iexact Hw
    iexact Hv
  · iexact Hany

/-! ## The reads of a slot -/

theorem shapeCasts_S256x8192_S1x256x8192 : S256x8192.ShapeCasts S1x256x8192 := shapeCasts_S1x256x8192_S256x8192.symm

theorem slot_setOn (kk : Fin 16) : bufM.view.setOn (Rect.unit (s := S16x256x256) ![kk.val, 0, 0] S1x256x256.size (slot_inb kk)).toLoadRect.set ⊆ (slotM kk).view.set := by
  exact subset_of_eq (Eq.trans (View.set_slice _ _).symm (Memref.set_view_squeeze (bufBlk _ (slot_inb kk)) squeezes_S1x256x256_S256x256).symm)
theorem wslot_setOn (kk : Fin 3) : wslM.view.setOn (Rect.unit (s := S3x256x8192) ![kk.val, 0, 0] S1x256x8192.size (wsl_inb kk)).toLoadRect.set ⊆ (wslotM kk).view.set := by
  exact subset_of_eq (Eq.trans (View.set_slice _ _).symm (Memref.set_view_squeeze (wslM.slice (Rect.unit (s := S3x256x8192) _ S1x256x8192.size (wsl_inb kk)) (fun _ => rfl))
    squeezes_S1x256x8192_S256x8192).symm)

/-- A read of slot `kk` of the receive buffer holding `X`. -/
theorem step_slot (kk : Fin 16) {X : Vec F S256x256 .bf16} {off : Fin 3 → ℕ} (ho : off = ![kk.val, 0, 0]) {inb} {hl}
    {Q : α → sProp 𝕄} {k : Vec F S1x256x256 .bf16 → Prog (TpuEff nD τ sig (Elt F) Λ₀ .tc) α} :
    owns (c : Thread nD τ) (slotM kk) fullShare X ⊢ iprop((owns (c : Thread nD τ) (slotM kk) fullShare X
        -∗ run c (k (shapeCast S1x256x256 X shapeCasts_S256x256_S1x256x256)) Q)
      -∗ run c (.op (.load bufM (Rect.unit (s := S16x256x256) off S1x256x256.size inb).toLoadRect hl) k) Q) := by
  subst ho
  unfold owns
  iintro ⟨%f, %hf, H⟩ Hk
  have hv : shapeCast S1x256x256 X shapeCasts_S256x256_S1x256x256
      = bufM.view.readAt (Elt F) (Rect.unit (s := S16x256x256) ![kk.val, 0, 0] S1x256x256.size (slot_inb kk)).toLoadRect f := by
    rw [← hf]; exact shapeCast_shapeCast (bufM.view.readAt (Elt F) (Rect.unit (s := S16x256x256) ![kk.val, 0, 0] S1x256x256.size (slot_inb kk)).toLoadRect f) shapeCasts_S1x256x256_S256x256 _
  rw [hv]
  iapply (wp_load 𝒱₀ (c : Thread nD τ) none Set.univ (m := bufM) (slot_setOn kk)) $$ H
  iintro H
  iapply Hk
  iexists f; isplitr; · ipureintro; exact hf
  iexact H

/-- A read of the slot of step `u` of the streamed row blocks. -/
theorem step_wslot (u : ℕ) {off : Fin 3 → ℕ} (ho : off = ![(wj u).val, 0, 0]) {inb} {hl}
    {Q : α → sProp 𝕄} {k : Vec F S1x256x8192 .f32 → Prog (TpuEff nD τ sig (Elt F) Λ₀ .tc) α} :
    wfull m c u ⊢ iprop((wfull m c u -∗ run c (k (shapeCast S1x256x8192 (wrow m c (dn c u)) shapeCasts_S256x8192_S1x256x8192)) Q)
      -∗ run c (.op (.load wslM (Rect.unit (s := S3x256x8192) off S1x256x8192.size inb).toLoadRect hl) k) Q) := by
  subst ho
  unfold wfull owns
  iintro ⟨%f, %hf, H⟩ Hk
  have hv : shapeCast S1x256x8192 (wrow m c (dn c u)) shapeCasts_S256x8192_S1x256x8192
      = wslM.view.readAt (Elt F) (Rect.unit (s := S3x256x8192) ![(wj u).val, 0, 0] S1x256x8192.size (wsl_inb (wj u))).toLoadRect f := by
    rw [← hf]; exact shapeCast_shapeCast (wslM.view.readAt (Elt F) (Rect.unit (s := S3x256x8192) ![(wj u).val, 0, 0] S1x256x8192.size (wsl_inb (wj u))).toLoadRect f) shapeCasts_S1x256x8192_S256x8192 _
  rw [hv]
  iapply (wp_load 𝒱₀ (c : Thread nD τ) none Set.univ (m := wslM) (wslot_setOn (wj u))) $$ H
  iintro H
  iapply Hk
  iexists f; isplitr; · ipureintro; exact hf
  iexact H

/-- A read of the block received at distance `u`, the last one waited for. -/
theorem step_block (u : ℕ) (h1 : 1 ≤ u) {off : Fin 3 → ℕ} (ho : off = ![(dn c u).val, 0, 0]) {inb} {hl}
    {Q : α → sProp 𝕄} {k : Vec F S1x256x256 .bf16 → Prog (TpuEff nD τ sig (Elt F) Λ₀ .tc) α} :
    RecvSt m ρ c (u + 1) ⊢ iprop((RecvSt m ρ c (u + 1) -∗ run c (k (shapeCast S1x256x256 (blk m ρ (dn c u) c) shapeCasts_S256x256_S1x256x256)) Q)
      -∗ run c (.op (.load bufM (Rect.unit (s := S16x256x256) off S1x256x256.size inb).toLoadRect hl) k) Q) := by
  unfold RecvSt
  rw [bigSep_Ico_succ_top h1]
  unfold slotFull
  iintro ⟨Hrest, ⟨Hs, Hat⟩, Hdone⟩ Hk
  iapply (step_slot c (dn c u) ho) $$ Hs
  iintro Hs
  iapply Hk
  isplitl [Hrest]; · iexact Hrest
  isplitr [Hdone]
  · isplitl [Hs] <;> iassumption
  · iexact Hdone

end Steps

end Cert.A2A
-- ==== Proof.Blocks.lean ====
/-
# The blocks of the buffers

The send buffer and `w` are cut in sixteen row blocks, the receive buffer in sixteen slots and the buffer of `w` in three. The
blocks of a family are disjoint and cover their buffer, so a buffer held whole is its blocks held one by one.
-/
module

public import proofs.«01_k».proof.Proof.Steps

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

theorem axis2 {P : Fin 2 → Prop} (h : P 1) (a : Fin 2) (ha : a ≠ 0) : P a := by
  fin_cases a; · exact absurd rfl ha
  exact h
theorem axis3 {P : Fin 3 → Prop} (h : P 1) (h' : P 2) (a : Fin 3) (ha : a ≠ 0) : P a := by
  fin_cases a; · exact absurd rfl ha
  · exact h
  · exact h'

theorem sep_bigSep {I : Type} (s : Finset I) (Φ Ψ : I → sProp 𝕄) :
    bigSep s (fun i => iprop(Φ i ∗ Ψ i)) = iprop(bigSep s Φ ∗ bigSep s Ψ) := bigSep_sep s Φ Ψ
/-- A conjunction over all devices, with one of them apart. -/
theorem bigSep_erase_univ (c : Dev nD) (A : Dev nD → sProp 𝕄) : bigSep Finset.univ A = iprop(A c ∗ bigSep (Finset.univ.erase c) A) := by
  conv_lhs => rw [← Finset.insert_erase (Finset.mem_univ c)]
  exact bigSep_insert (Finset.notMem_erase c _)

def rowSet (k : Fin 16) : Finset S4096x256.Idx := (rowM k).view.set
theorem rowSet_eq (k : Fin 16) : rowSet k = (Rect.unit (s := S4096x256) ![256 * k.val, 0] S256x256.size (row_inb k)).set :=
  View.set_slice_whole _ _
theorem row_disjoint (b b' : Fin 16) (h : b ≠ b') : Disjoint (rowSet b) (rowSet b') := by
  rw [rowSet_eq, rowSet_eq]
  exact Ring.lead_disjoint (s := S4096x256) (NB := 16) 0 256 (fun k => ![256 * k.val, 0]) S256x256.size (fun k => row_inb k) (fun k => rfl) rfl b b' h
theorem row_cover : Finset.univ.biUnion rowSet = Finset.univ := by
  rw [show rowSet = fun k => (Rect.unit (s := S4096x256) ![256 * k.val, 0] S256x256.size (row_inb k)).set from funext rowSet_eq]
  exact Ring.lead_cover (s := S4096x256) (NB := 16) 0 256 (fun k => ![256 * k.val, 0]) S256x256.size (fun k => row_inb k) (fun k => rfl)
    (fun b => axis2 rfl) rfl (axis2 rfl) rfl

def wrowSet (k : Fin 16) : Finset S4096x8192.Idx := (wrowM k).view.set
theorem wrowSet_eq (k : Fin 16) : wrowSet k = (Rect.unit (s := S4096x8192) ![256 * k.val, 0] S256x8192.size (wrow_inb k)).set :=
  View.set_slice_whole _ _
theorem wrow_disjoint (b b' : Fin 16) (h : b ≠ b') : Disjoint (wrowSet b) (wrowSet b') := by
  rw [wrowSet_eq, wrowSet_eq]
  exact Ring.lead_disjoint (s := S4096x8192) (NB := 16) 0 256 (fun k => ![256 * k.val, 0]) S256x8192.size (fun k => wrow_inb k) (fun k => rfl) rfl b b' h
theorem wrow_cover : Finset.univ.biUnion wrowSet = Finset.univ := by
  rw [show wrowSet = fun k => (Rect.unit (s := S4096x8192) ![256 * k.val, 0] S256x8192.size (wrow_inb k)).set from funext wrowSet_eq]
  exact Ring.lead_cover (s := S4096x8192) (NB := 16) 0 256 (fun k => ![256 * k.val, 0]) S256x8192.size (fun k => wrow_inb k) (fun k => rfl)
    (fun b => axis2 rfl) rfl (axis2 rfl) rfl

def slotSet (k : Fin 16) : Finset S16x256x256.Idx := (slotM k).view.set
theorem slotSet_eq (k : Fin 16) : slotSet k = (Rect.unit (s := S16x256x256) ![k.val, 0, 0] S1x256x256.size (slot_inb k)).set :=
  (Memref.set_view_squeeze (bufBlk _ (slot_inb k)) squeezes_S1x256x256_S256x256).trans (View.set_slice_whole _ _)
theorem slot_disjoint (b b' : Fin 16) (h : b ≠ b') : Disjoint (slotSet b) (slotSet b') := by
  rw [slotSet_eq, slotSet_eq]
  exact Ring.lead_disjoint (s := S16x256x256) (NB := 16) 0 1 (fun k => ![k.val, 0, 0]) S1x256x256.size (fun k => slot_inb k) (fun k => (Nat.one_mul _).symm) rfl b b' h
theorem slot_cover : Finset.univ.biUnion slotSet = Finset.univ := by
  rw [show slotSet = fun k => (Rect.unit (s := S16x256x256) ![k.val, 0, 0] S1x256x256.size (slot_inb k)).set from funext slotSet_eq]
  exact Ring.lead_cover (s := S16x256x256) (NB := 16) 0 1 (fun k => ![k.val, 0, 0]) S1x256x256.size (fun k => slot_inb k) (fun k => (Nat.one_mul _).symm)
    (fun b => axis3 rfl rfl) rfl (axis3 rfl rfl) rfl

def wslotSet (k : Fin 3) : Finset S3x256x8192.Idx := (wslotM k).view.set
theorem wslotSet_eq (k : Fin 3) : wslotSet k = (Rect.unit (s := S3x256x8192) ![k.val, 0, 0] S1x256x8192.size (wsl_inb k)).set :=
  (Memref.set_view_squeeze (wslM.slice (Rect.unit (s := S3x256x8192) _ S1x256x8192.size (wsl_inb k)) (fun _ => rfl)) squeezes_S1x256x8192_S256x8192).trans (View.set_slice_whole _ _)
theorem wslot_disjoint (b b' : Fin 3) (h : b ≠ b') : Disjoint (wslotSet b) (wslotSet b') := by
  rw [wslotSet_eq, wslotSet_eq]
  exact Ring.lead_disjoint (s := S3x256x8192) (NB := 3) 0 1 (fun k => ![k.val, 0, 0]) S1x256x8192.size (fun k => wsl_inb k) (fun k => (Nat.one_mul _).symm) rfl b b' h
theorem wslot_cover : Finset.univ.biUnion wslotSet = Finset.univ := by
  rw [show wslotSet = fun k => (Rect.unit (s := S3x256x8192) ![k.val, 0, 0] S1x256x8192.size (wsl_inb k)).set from funext wslotSet_eq]
  exact Ring.lead_cover (s := S3x256x8192) (NB := 3) 0 1 (fun k => ![k.val, 0, 0]) S1x256x8192.size (fun k => wsl_inb k) (fun k => (Nat.one_mul _).symm)
    (fun b => axis3 rfl rfl) rfl (axis3 rfl rfl) rfl

end Cert.A2A
-- ==== Proof.Body.lean ====
/-
# The run of a device

The accumulator after each step, the result, and the remaining step lemmas: the accesses of the staged blocks, of the send
buffer and of the device's own slot, and the column chunks of the last step.
-/
module

public import proofs.«01_k».proof.Proof.Blocks

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-! ## The accumulator and the result -/

/-- The block received at distance `u` and the row block of `w` for step `u`, as the loads read them. -/
def ablk (c : Dev nD) (u : ℕ) : Vec F S1x256x256 .bf16 := shapeCast S1x256x256 (blk m ρ (dn c u) c) shapeCasts_S256x256_S1x256x256
def wblk (c : Dev nD) (u : ℕ) : Vec F S1x256x8192 .f32 := shapeCast S1x256x8192 (wrow m c (dn c u)) shapeCasts_S256x8192_S1x256x8192

/-- The accumulator after `u + 1` steps. -/
def accv (c : Dev nD) : ℕ → Vec F S256x8192 .f32
  | 0 => k0_pay4 (k0_pay3 (ablk m ρ c 0)) (wblk m c 0)
  | u + 1 => k0_pay5 (ablk m ρ c (u + 1)) (wblk m c (u + 1)) (accv c u)

/-- The rectangles of the last step's column chunks: of the result, and of a row block of `w`. -/
theorem orect_inb (k : Fin 4) : ∀ a : Fin 2, (![0, 2048 * k.val] : Fin 2 → ℕ) a + S256x2048.size a ≤ S256x8192.size a := by
  intro a; have := k.isLt; fin_cases a
  · show 0 + 256 ≤ 256; omega
  · show 2048 * k.val + 2048 ≤ 8192; omega
theorem wrect_inb (k : Fin 4) : ∀ a : Fin 3, (![0, 0, 2048 * k.val] : Fin 3 → ℕ) a + S1x256x2048.size a ≤ S1x256x8192.size a := by
  intro a; have := k.isLt; fin_cases a
  · show 0 + 1 ≤ 1; omega
  · show 0 + 256 ≤ 256; omega
  · show 2048 * k.val + 2048 ≤ 8192; omega
abbrev orect (k : Fin 4) : Rect S256x8192 := Rect.unit (s := S256x8192) ![0, 2048 * k.val] S256x2048.size (orect_inb k)
abbrev wrect (k : Fin 4) : Rect S1x256x8192 := Rect.unit (s := S1x256x8192) ![0, 0, 2048 * k.val] S1x256x2048.size (wrect_inb k)

/-- Column chunk `k` of a row block of `w`, and of the accumulator. -/
def wchunk (X : Vec F S1x256x8192 .f32) (k : Fin 4) : Vec F S1x256x2048 .f32 := fun j => X ((wrect k).toLoadRect.idx j)
def ochunk (f : Vec F S256x8192 .f32) (k : Fin 4) : Vec F S256x2048 .f32 := oM.view.readAt (Elt F) (orect k).toLoadRect f
/-- The last step on column chunk `k`: the product added, then the activation. -/
def tailStep (c : Dev nD) (k : Fin 4) (f : Vec F S256x8192 .f32) : Vec F S256x8192 .f32 :=
  (oM.access (orect k)).write (Elt F) f (k0_pay25 (ablk m ρ c 15) (wchunk (wblk m c 15) k) (ochunk f k)) Finset.univ
/-- What the device leaves in its block of the result. -/
def fin (c : Dev nD) : Vec F S256x8192 .f32 := tailStep m ρ c 3 (tailStep m ρ c 2 (tailStep m ρ c 1 (tailStep m ρ c 0 (accv m ρ c 14))))

/-! ## Semaphores and offsets as the program writes them -/

theorem cell_inb {n : ℕ} (k : Fin n) : ∀ a : Fin 1, (![k.val] : Fin 1 → ℕ) a + S1.size a ≤ (⟨1, ![n]⟩ : Shape).size a := by
  intro a; have := k.isLt; fin_cases a; show k.val + 1 ≤ n; omega
theorem recv_sem_at : ∀ k : Fin 16,
    ((cc0_scratch4.slice (Rect.unit (s := S16) ![k.val] S1.size (cell_inb k))).squeeze S_ squeezes_S1_S_).sem = recvS k := by decide +kernel
theorem send_sem : ∀ j : Fin 15,
    ((cc0_scratch3.slice (Rect.unit (s := S15) ![j.val] S1.size (cell_inb j))).squeeze S_ squeezes_S1_S_).sem = sendS j := by decide +kernel
theorem w_sem : ∀ k : Fin 3,
    ((cc0_scratch5.slice (Rect.unit (s := S3) ![k.val] S1.size (cell_inb k))).squeeze S_ squeezes_S1_S_).sem = wS k := by decide +kernel
theorem recv_sem {off : Fin 1 → ℕ} {inb} {k : Fin 16} (h : off = ![k.val]) :
    ((cc0_scratch4.slice (Rect.unit (s := S16) off S1.size inb)).squeeze S_ squeezes_S1_S_).sem = recvS k := by
  subst h; exact recv_sem_at k
theorem off1_dn (c : Dev nD) (r : Fin 16) : k0_off1 c (BitVec.ofNat 32 r.val) = ![256 * (dn c r.val).val, 0] := k0_off1_eq c r
theorem off6_up (c : Dev nD) (r : Fin 15) : k0_off6 c (BitVec.ofNat 32 (1 + r.val)) = ![256 * (up c (r.val + 1)).val, 0] := k0_off6_eq c r
theorem off7_dn (c : Dev nD) (r : Fin 16) : k0_off7 c (BitVec.ofNat 32 r.val) = ![(dn c r.val).val, 0, 0] := k0_off7_eq c r
theorem off8_dn (c : Dev nD) (r : Fin 15) : k0_off8 c (BitVec.ofNat 32 (1 + r.val)) = ![(dn c (r.val + 1)).val] := by
  rw [k0_off8_eq c r]; have := r.isLt; have hc := c.isLt; change c.val < 16 at hc
  rw [show ((c.val + 15) - r.val) % 16 = (dn c (r.val + 1)).val from by simp only [dn]; congr 1; omega]

/-! ## The remaining steps -/

section Steps
variable (c : Dev nD) {α : Type}

theorem zeros2 : (![0, 0] : Fin 2 → ℕ) = fun _ => 0 := by funext a; fin_cases a <;> rfl

theorem step_xload {Q : α → sProp 𝕄} {f : Vec F S4096x256 .f32} {inb} {hl} {k : Vec F S4096x256 .f32 → Prog (TpuEff nD τ sig (Elt F) Λ₀ .tc) α} :
    ((c : Thread nD τ).loc cc0_stg0_0 ↦{fullShare} f : sProp 𝕄) ⊢ iprop((((c : Thread nD τ).loc cc0_stg0_0 ↦{fullShare} f) -∗ run c (k f) Q)
      -∗ run c (.op (.load xM (Rect.unit (s := S4096x256) ![0, 0] S4096x256.size inb).toLoadRect hl) k) Q) := by
  have e : xM.view.readAt (Elt F) (Rect.unit (s := S4096x256) ![0, 0] S4096x256.size inb).toLoadRect f = f :=
    Memref.readAt_unit_zero (Elt F) cc0_stg0_0 zeros2 inb f
  have h := wp_load (Γ := PendingWaitsCtx.empty) (Q := Q) (defs := defs₀ (F := F)) 𝒱₀ (c : Thread nD τ) none Set.univ (m := xM) (r := (Rect.unit (s := S4096x256) ![0, 0] S4096x256.size inb).toLoadRect)
    (hl := hl) (k := k) (S := Finset.univ) (q := fullShare) (f := f) (Finset.subset_univ _)
  rw [e] at h
  exact h

theorem step_oload {Q : α → sProp 𝕄} {f : Vec F S256x8192 .f32} {inb} {hl} {k : Vec F S256x8192 .f32 → Prog (TpuEff nD τ sig (Elt F) Λ₀ .tc) α} :
    ((c : Thread nD τ).loc cc0_stg1_0 ↦{fullShare} f : sProp 𝕄) ⊢ iprop((((c : Thread nD τ).loc cc0_stg1_0 ↦{fullShare} f) -∗ run c (k f) Q)
      -∗ run c (.op (.load oM (Rect.unit (s := S256x8192) ![0, 0] S256x8192.size inb).toLoadRect hl) k) Q) := by
  have e : oM.view.readAt (Elt F) (Rect.unit (s := S256x8192) ![0, 0] S256x8192.size inb).toLoadRect f = f :=
    Memref.readAt_unit_zero (Elt F) cc0_stg1_0 zeros2 inb f
  have h := wp_load (Γ := PendingWaitsCtx.empty) (Q := Q) (defs := defs₀ (F := F)) 𝒱₀ (c : Thread nD τ) none Set.univ (m := oM) (r := (Rect.unit (s := S256x8192) ![0, 0] S256x8192.size inb).toLoadRect)
    (hl := hl) (k := k) (S := Finset.univ) (q := fullShare) (f := f) (Finset.subset_univ _)
  rw [e] at h
  exact h

theorem step_ostore {w' w f : Vec F S256x8192 .f32} (hw : w = w') {Q : α → sProp 𝕄} {inb} {hx} {hm} {k : PUnit → Prog (TpuEff nD τ sig (Elt F) Λ₀ .tc) α} :
    ((c : Thread nD τ).loc cc0_stg1_0 ↦{fullShare} f : sProp 𝕄) ⊢ iprop((((c : Thread nD τ).loc cc0_stg1_0 ↦{fullShare} w') -∗ run c (k ⟨⟩) Q)
      -∗ run c (.op (.store oM (Rect.unit (s := S256x8192) ![0, 0] S256x8192.size inb) w Finset.univ hx hm) k) Q) := by
  subst hw
  have e : (oM.access (Rect.unit (s := S256x8192) ![0, 0] S256x8192.size inb)).write (Elt F) f w Finset.univ = w :=
    Memref.write_access_unit_zero_univ (Elt F) cc0_stg1_0 zeros2 inb f w
  have h := wp_store (Γ := PendingWaitsCtx.empty) (Q := Q) (defs := defs₀ (F := F)) 𝒱₀ (c : Thread nD τ) none Set.univ (m := oM) (r := (Rect.unit (s := S256x8192) ![0, 0] S256x8192.size inb))
    (w := w) (hx := hx) (hm := hm) (k := k) (Mk := Finset.univ) (S := Finset.univ) (f := f) (Finset.subset_univ _)
  rw [e] at h
  exact h

/-- The read and the store of column chunk `kk` of the result. -/
theorem step_ochunk (kk : Fin 4) {f : Vec F S256x8192 .f32} {off : Fin 2 → ℕ} (ho : off = ![0, 2048 * kk.val]) {Q : α → sProp 𝕄} {inb} {hl}
    {k : Vec F S256x2048 .f32 → Prog (TpuEff nD τ sig (Elt F) Λ₀ .tc) α} :
    ((c : Thread nD τ).loc cc0_stg1_0 ↦{fullShare} f : sProp 𝕄) ⊢ iprop((((c : Thread nD τ).loc cc0_stg1_0 ↦{fullShare} f) -∗ run c (k (ochunk f kk)) Q)
      -∗ run c (.op (.load oM (Rect.unit (s := S256x8192) off S256x2048.size inb).toLoadRect hl) k) Q) := by
  subst ho
  exact wp_load (Γ := PendingWaitsCtx.empty) (Q := Q) (defs := defs₀ (F := F)) 𝒱₀ (c : Thread nD τ) none Set.univ (m := oM)
    (hl := hl) (k := k) (S := Finset.univ) (q := fullShare) (f := f) (Finset.subset_univ _)
theorem step_tail (kk : Fin 4) {f : Vec F S256x8192 .f32} {w : Vec F S256x2048 .f32} {off : Fin 2 → ℕ} (ho : off = ![0, 2048 * kk.val])
    (hw : w = k0_pay25 (ablk m ρ c 15) (wchunk (wblk m c 15) kk) (ochunk f kk)) {Q : α → sProp 𝕄} {inb} {hx} {hm}
    {k : PUnit → Prog (TpuEff nD τ sig (Elt F) Λ₀ .tc) α} :
    ((c : Thread nD τ).loc cc0_stg1_0 ↦{fullShare} f : sProp 𝕄) ⊢ iprop((((c : Thread nD τ).loc cc0_stg1_0 ↦{fullShare} tailStep m ρ c kk f) -∗ run c (k ⟨⟩) Q)
      -∗ run c (.op (.store oM (Rect.unit (s := S256x8192) off S256x2048.size inb) w Finset.univ hx hm) k) Q) := by
  subst ho hw
  exact wp_store (Γ := PendingWaitsCtx.empty) (Q := Q) (defs := defs₀ (F := F)) 𝒱₀ (c : Thread nD τ) none Set.univ (m := oM)
    (hx := hx) (hm := hm) (k := k) (S := Finset.univ) (f := f) (Finset.subset_univ _)

theorem step_sload {Q : α → sProp 𝕄} {f : Vec F S4096x256 .bf16} {inb} {hl} {k : Vec F S4096x256 .bf16 → Prog (TpuEff nD τ sig (Elt F) Λ₀ .tc) α} :
    ((c : Thread nD τ).loc cc0_scratch1 ↦{fullShare} f : sProp 𝕄) ⊢ iprop((((c : Thread nD τ).loc cc0_scratch1 ↦{fullShare} f) -∗ run c (k f) Q)
      -∗ run c (.op (.load sndM (Rect.unit (s := S4096x256) ![0, 0] S4096x256.size inb).toLoadRect hl) k) Q) := by
  have e : sndM.view.readAt (Elt F) (Rect.unit (s := S4096x256) ![0, 0] S4096x256.size inb).toLoadRect f = f :=
    Memref.readAt_unit_zero (Elt F) cc0_scratch1 zeros2 inb f
  have h := wp_load (Γ := PendingWaitsCtx.empty) (Q := Q) (defs := defs₀ (F := F)) 𝒱₀ (c : Thread nD τ) none Set.univ (m := sndM) (r := (Rect.unit (s := S4096x256) ![0, 0] S4096x256.size inb).toLoadRect)
    (hl := hl) (k := k) (S := Finset.univ) (q := fullShare) (f := f) (Finset.subset_univ _)
  rw [e] at h
  exact h

theorem step_sstore {w' w f : Vec F S4096x256 .bf16} (hw : w = w') {Q : α → sProp 𝕄} {inb} {hx} {hm} {k : PUnit → Prog (TpuEff nD τ sig (Elt F) Λ₀ .tc) α} :
    ((c : Thread nD τ).loc cc0_scratch1 ↦{fullShare} f : sProp 𝕄) ⊢ iprop((((c : Thread nD τ).loc cc0_scratch1 ↦{fullShare} w') -∗ run c (k ⟨⟩) Q)
      -∗ run c (.op (.store sndM (Rect.unit (s := S4096x256) ![0, 0] S4096x256.size inb) w Finset.univ hx hm) k) Q) := by
  subst hw
  have e : (sndM.access (Rect.unit (s := S4096x256) ![0, 0] S4096x256.size inb)).write (Elt F) f w Finset.univ = w :=
    Memref.write_access_unit_zero_univ (Elt F) cc0_scratch1 zeros2 inb f w
  have h := wp_store (Γ := PendingWaitsCtx.empty) (Q := Q) (defs := defs₀ (F := F)) 𝒱₀ (c : Thread nD τ) none Set.univ (m := sndM) (r := (Rect.unit (s := S4096x256) ![0, 0] S4096x256.size inb))
    (w := w) (hx := hx) (hm := hm) (k := k) (Mk := Finset.univ) (S := Finset.univ) (f := f) (Finset.subset_univ _)
  rw [e] at h
  exact h

/-- The read of the device's own row block of the cast block. -/
theorem step_own {Q : α → sProp 𝕄} {off : Fin 2 → ℕ} (ho : off = ![256 * c.val, 0]) {inb} {hl} {k : Vec F S256x256 .bf16 → Prog (TpuEff nD τ sig (Elt F) Λ₀ .tc) α} :
    ((c : Thread nD τ).loc cc0_scratch1 ↦{fullShare} snd m ρ c : sProp 𝕄) ⊢ iprop((((c : Thread nD τ).loc cc0_scratch1 ↦{fullShare} snd m ρ c) -∗ run c (k (blk m ρ c c)) Q)
      -∗ run c (.op (.load sndM (Rect.unit (s := S4096x256) off S256x256.size inb).toLoadRect hl) k) Q) := by
  subst ho
  exact wp_load (Q := Q) (defs := defs₀ (F := F)) 𝒱₀ (c : Thread nD τ) none Set.univ (m := sndM)
    (hl := hl) (k := k) (S := Finset.univ) (q := fullShare) (f := snd m ρ c) (Finset.subset_univ _)

/-- The store of it in the device's own slot. -/
theorem step_ownstore {Q : α → sProp 𝕄} {X : Vec F S256x256 .bf16} {off : Fin 3 → ℕ} (ho : off = ![c.val, 0, 0]) {inb} {hx} {hm}
    {k : PUnit → Prog (TpuEff nD τ sig (Elt F) Λ₀ .tc) α} :
    owns (c : Thread nD τ) (slotM c) fullShare X ⊢ iprop((slotFull m ρ c c -∗ run c (k ⟨⟩) Q)
      -∗ run c (.op (.store bufM (Rect.unit (s := S16x256x256) off S1x256x256.size inb) (k0_pay2 (blk m ρ c c)) Finset.univ hx hm) k) Q) := by
  subst ho
  unfold slotFull owns
  iintro ⟨%f, %hf, H⟩ Hk
  iapply (wp_store 𝒱₀ (c : Thread nD τ) none Set.univ (m := bufM) (r := Rect.unit (s := S16x256x256) ![c.val, 0, 0] S1x256x256.size inb) (Mk := Finset.univ)
    (S := (slotM c).view.set) (subset_of_eq (Memref.set_view_squeeze (bufBlk _ (slot_inb c)) squeezes_S1x256x256_S256x256).symm)) $$ H
  iintro H
  iapply Hk
  iexists _
  isplitr [H]
  · ipureintro
    have h1 : (slotM c).view.read (Elt F) ((bufM.access (Rect.unit (s := S16x256x256) ![c.val, 0, 0] S1x256x256.size inb)).write (Elt F) f (k0_pay2 (blk m ρ c c)) Finset.univ)
        = shapeCast S256x256 ((bufM.access (Rect.unit (s := S16x256x256) ![c.val, 0, 0] S1x256x256.size inb)).read (Elt F)
            ((bufM.access (Rect.unit (s := S16x256x256) ![c.val, 0, 0] S1x256x256.size inb)).write (Elt F) f (k0_pay2 (blk m ρ c c)) Finset.univ)) shapeCasts_S1x256x256_S256x256 := rfl
    rw [h1, View.read_write_univ]
    exact shapeCast_shapeCast _ _ _
  · iexact H

/-- The read of a column chunk of the row block of `w` of the last step. -/
theorem step_wchunk {Q : α → sProp 𝕄} (kk : Fin 4) {off : Fin 3 → ℕ} (ho : off = ![0, 0, 2048 * kk.val]) {inb} {hl}
    {k : Vec F S1x256x2048 .f32 → Prog (TpuEff nD τ sig (Elt F) Λ₀ .tc) α} :
    wfull m c 15 ⊢ iprop((wfull m c 15 -∗ run c (k (wchunk (wblk m c 15) kk)) Q)
      -∗ run c (.op (.load wslM (Rect.unit (s := S3x256x8192) off S1x256x2048.size inb).toLoadRect hl) k) Q) := by
  subst ho
  unfold wfull owns
  iintro ⟨%f, %hf, H⟩ Hk
  have hv : wchunk (wblk m c 15) kk = wslM.view.readAt (Elt F) (Rect.unit (s := S3x256x8192) ![0, 0, 2048 * kk.val] S1x256x2048.size inb).toLoadRect f := by
    have h1 : wblk m c 15 = wslM.view.readAt (Elt F) (Rect.unit (s := S3x256x8192) ![(wj 15).val, 0, 0] S1x256x8192.size (wsl_inb (wj 15))).toLoadRect f := by
      unfold wblk; rw [← hf]
      exact shapeCast_shapeCast (wslM.view.readAt (Elt F) (Rect.unit (s := S3x256x8192) ![(wj 15).val, 0, 0] S1x256x8192.size (wsl_inb (wj 15))).toLoadRect f)
        shapeCasts_S1x256x8192_S256x8192 _
    rw [h1]
    funext j
    refine congrArg f (funext fun a => Fin.ext ?_)
    fin_cases a
    · show 0 + 1 * (0 + 1 * (j 0).val) = 0 + 1 * (j 0).val; omega
    · show 0 + 1 * (0 + 1 * (j 1).val) = 0 + 1 * (j 1).val; omega
    · show 0 + 1 * (2048 * kk.val + 1 * (j 2).val) = 2048 * kk.val + 1 * (j 2).val; omega
  rw [hv]
  iapply (wp_load 𝒱₀ (c : Thread nD τ) none Set.univ (m := wslM) (S := (wslotM (wj 15)).view.set) (by
    refine Finset.Subset.trans ?_ (wslot_setOn (wj 15))
    intro i hi
    obtain ⟨i', hi', rfl⟩ := Finset.mem_map.mp hi
    refine Finset.mem_map.mpr ⟨i', (Rect.mem_set_unit (inb := wsl_inb (wj 15))).mpr fun a => ?_, rfl⟩
    have h := (Rect.mem_set_unit (inb := inb)).mp hi' a
    have hk := kk.isLt
    fin_cases a
    · exact h
    · exact h
    · have h2 : 2048 * kk.val ≤ (i' 2).val ∧ (i' 2).val < 2048 * kk.val + 2048 := h
      show 0 ≤ (i' 2).val ∧ (i' 2).val < 0 + 8192
      omega)) $$ H
  iintro H
  iapply Hk
  iexists f; isplitr; · ipureintro; exact hf
  iexact H

end Steps

/-- The cast block, cut in the row blocks the transfers take. -/
theorem snd_split (c : Dev nD) : ((c : Thread nD τ).loc cc0_scratch1 ↦{fullShare} snd m ρ c : sProp 𝕄)
    ⊢ iprop(rowFull m ρ c c ∗ bigSep (Finset.Ico 1 16) fun d => rowFull m ρ c (up c d)) := by
  rw [Ring.pointsTo_blocks (ℓ := (c : Thread nD τ).loc cc0_scratch1) rowSet row_disjoint row_cover (snd m ρ c)]
  refine (bigSep_mono fun k _ => owns_intro (c : Thread nD τ) (rowM k) fullShare (snd m ρ c)).trans ?_
  rw [← bigSep_up c fun k => rowFull m ρ c k]
  exact Entails.of_eq (bigSep_erase_univ c fun k => rowFull m ρ c k)

end Cert.A2A
-- ==== Proof.Run.lean ====
/-
# The run of a device, effect by effect

One pass over the program at a symbolic device: the entry signals, the first copies of `w`, the cast block, the wait on the
barrier, the transfers, the sixteen steps and the waits for the transfers to have left.
-/
module

public import proofs.«01_k».proof.Proof.Body

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-! ## Between the phases -/

theorem Ow_end (c : Dev nD) : (Ow c (oweRecv c 1 + oweBar c 16) : sProp 𝕄) ⊢ Ow c (oweRecv c 1) := by
  rw [oweBar_end, add_zero]

/-- The tokens of the transfers: to signal that one left, and that one came. -/
def toks (c : Dev nD) : sProp 𝕄 :=
  bigSep (Finset.Ico 1 16) fun d => iprop(dutyTok ER (sendCell c (sj d)) 0 c ∗ dutyTok ER (recvCell (up c d) c) 0 c)

theorem send_intro (c : Dev nD) :
    iprop(Ow c (oweRecv c 1) ∗ bigSep (Finset.Ico 1 16) (fun d => rowFull m ρ c (up c d)) ∗ bigSep (Finset.Ico 1 16) (fun d => slotAny (F := F) (up c d) c)
      ∗ toks c) ⊢ SendSt m ρ c 1 := by
  unfold SendSt toks
  simp only [sep_bigSep, Finset.Ico_self, bigSep_empty]
  iintro ⟨HO, H1, H2, H3⟩
  isplitl [HO]; · iexact HO
  isplitl
  · isplitl [H1]; · iexact H1
    isplitl [H2]; · iexact H2
    iexact H3
  iempintro
theorem send_elim (c : Dev nD) : SendSt m ρ c 16 ⊢ iprop(Ow c 0 ∗ bigSep (Finset.Ico 1 16) fun d => cred (tallyAt (sendCell c (sj d)) () N)) := by
  unfold SendSt
  rw [oweRecv_end]
  iintro ⟨HO, -, H⟩
  isplitl [HO]; · iexact HO
  iexact H
theorem left_intro (c : Dev nD) : iprop(bigSep (Finset.Ico 1 16) (fun d => cred (tallyAt (sendCell c (sj d)) () N))
    ∗ bigSep (Finset.Ico 1 16) (fun d => atPos ER (sendCell c (sj d)) 0 ∅ 0)) ⊢ LeftSt m ρ c 1 := by
  unfold LeftSt
  rw [sep_bigSep, Finset.Ico_self, bigSep_empty]
  iintro ⟨H1, H2⟩
  isplitl
  · isplitl [H1]; · iexact H1
    iexact H2
  iempintro

/-! ## The run -/

/-- What the device holds when it starts. -/
def BodyIn (c : Dev nD) : sProp 𝕄 :=
  iprop(SigSt c 1 ∗ levAts L lv ∗ cred (tallyAt (barCell c) () 15) ∗ atPos ER (barCell c) 0 ∅ 0
    ∗ ((c : Thread nD τ).loc cc0_stg0_0 ↦{fullShare} xstg m ρ c)
    ∗ (∃ f : Vec F S256x8192 .f32, (c : Thread nD τ).loc cc0_stg1_0 ↦{fullShare} f)
    ∗ (∃ f : Vec F S4096x256 .bf16, (c : Thread nD τ).loc cc0_scratch1 ↦{fullShare} f)
    ∗ slotAny c c ∗ toks c ∗ bigSep (Finset.Ico 1 16) (fun d => atPos ER (sendCell c (sj d)) 0 ∅ 0)
    ∗ RecvSt m ρ c 1 ∗ WSt m c 0 0)
/-- And when it is done. -/
def BodyOut (c : Dev nD) : sProp 𝕄 :=
  iprop(Ow c 0 ∗ atPos ER (barCell c) 1 ∅ 0
    ∗ ((c : Thread nD τ).loc cc0_stg0_0 ↦{fullShare} xstg m ρ c) ∗ ((c : Thread nD τ).loc cc0_stg1_0 ↦{fullShare} fin m ρ c)
    ∗ rowFull m ρ c c ∗ slotFull m ρ c c ∗ LeftSt m ρ c 16 ∗ RecvSt m ρ c 16 ∗ WSt m c 16 16)

set_option maxHeartbeats 4000000 in
set_option maxRecDepth 65536 in
theorem run_body (c : Dev nD) {h0 h1 h2 h3 h4 h5} (Q : PUnit → sProp 𝕄) :
    records (F := F) m ρ K ⊢ iprop(BodyIn m ρ c -∗ (BodyOut m ρ c -∗ Q ⟨⟩)
      -∗ run c (cc0_body xM h0 wM h1 oM h2 bufM h3 sndM h4 wslM h5 cc0_scratch3 cc0_scratch4 cc0_scratch5) Q) := by
  unfold BodyIn slotAny
  iintro #Hrec ⟨HS, Hlev, Hcb, Hab, Hx, ⟨%o₀, Ho⟩, ⟨%s₀, Hs⟩, ⟨%b₀, Hown⟩, Htok, Hats, HR, HW⟩ Hk
  rw [cc0_body_eq_skeleton]; unfold cc0_body_skel
  rw [k0_part35_eq_skeleton]; unfold k0_part35_skel
  rw [k0_part1_eq_skeleton]; unfold k0_part1_skel; simp only [semSignalWord, Prog.lift, Prog.bind_op, Prog.bind_ret, Prog.pure_eq_ret, wp_deviceId]
  iapply (step_signal m ρ K c 1 (by decide) (by decide) (Fin.ext (k0_dev1_eq c)) rfl) $$ Hrec HS; iintro HS
  iapply (step_signal m ρ K c 2 (by decide) (by decide) (Fin.ext (k0_dev2_eq c)) rfl) $$ Hrec HS; iintro HS
  iapply (step_signal m ρ K c 3 (by decide) (by decide) (Fin.ext (k0_dev3_eq c)) rfl) $$ Hrec HS; iintro HS
  iapply (step_signal m ρ K c 4 (by decide) (by decide) (Fin.ext (k0_dev4_eq c)) rfl) $$ Hrec HS; iintro HS
  iapply (step_signal m ρ K c 5 (by decide) (by decide) (Fin.ext (k0_dev5_eq c)) rfl) $$ Hrec HS; iintro HS
  rw [k0_part2_eq_skeleton]; unfold k0_part2_skel; simp only [semSignalWord, Prog.lift, Prog.bind_op, Prog.bind_ret, Prog.pure_eq_ret]
  iapply (step_signal m ρ K c 6 (by decide) (by decide) (Fin.ext (k0_dev6_eq c)) rfl) $$ Hrec HS; iintro HS
  iapply (step_signal m ρ K c 7 (by decide) (by decide) (Fin.ext (k0_dev7_eq c)) rfl) $$ Hrec HS; iintro HS
  iapply (step_signal m ρ K c 8 (by decide) (by decide) (Fin.ext (k0_dev8_eq c)) rfl) $$ Hrec HS; iintro HS
  iapply (step_signal m ρ K c 9 (by decide) (by decide) (Fin.ext (k0_dev9_eq c)) rfl) $$ Hrec HS; iintro HS
  iapply (step_signal m ρ K c 10 (by decide) (by decide) (Fin.ext (k0_dev10_eq c)) rfl) $$ Hrec HS; iintro HS
  iapply (step_signal m ρ K c 11 (by decide) (by decide) (Fin.ext (k0_dev11_eq c)) rfl) $$ Hrec HS; iintro HS
  rw [k0_part3_eq_skeleton]; unfold k0_part3_skel; simp only [semSignalWord, Prog.lift, Prog.bind_op, Prog.bind_ret, Prog.pure_eq_ret]
  iapply (step_signal m ρ K c 12 (by decide) (by decide) (Fin.ext (k0_dev12_eq c)) rfl) $$ Hrec HS; iintro HS
  iapply (step_signal m ρ K c 13 (by decide) (by decide) (Fin.ext (k0_dev13_eq c)) rfl) $$ Hrec HS; iintro HS
  iapply (step_signal m ρ K c 14 (by decide) (by decide) (Fin.ext (k0_dev14_eq c)) rfl) $$ Hrec HS; iintro HS
  iapply (step_signal m ρ K c 15 (by decide) (by decide) (Fin.ext (k0_dev15_eq c)) rfl) $$ Hrec HS; iintro HS
  iapply (step_wstart m c 0 0 (by decide) (by decide) (by decide) (off1_dn c 0) rfl (w_sem (wj 0))) $$ HW; iintro HW
  rw [k0_part4_eq_skeleton]; unfold k0_part4_skel; simp only [semWaitWord, Prog.lift, Prog.bind_op, Prog.bind_ret, Prog.pure_eq_ret]
  iapply (step_wstart m c 1 0 (by decide) (by decide) (by decide) (off1_dn c 1) rfl (w_sem (wj 1))) $$ HW; iintro HW
  iapply (step_wstart m c 2 0 (by decide) (by decide) (by decide) (off1_dn c 2) rfl (w_sem (wj 2))) $$ HW; iintro HW
  iapply (step_xload c) $$ Hx; iintro Hx
  iapply (step_sload c) $$ Hs; iintro Hs
  iapply (step_sstore c (w' := snd m ρ c) rfl) $$ Hs; iintro Hs
  iapply (step_own m ρ c (k0_off2_eq c)) $$ Hs; iintro Hs
  iapply (step_slot c c (k0_off3_eq c)) $$ Hown; iintro Hown
  iapply (step_ownstore m ρ c (k0_off3_eq c)) $$ Hown; iintro Hown
  -- the wait on the barrier, and what the transfers take
  unfold SigSt; icases HS with ⟨HO, -⟩
  ihave HO := (Ow_end c) $$ HO
  icombine Hcb Hab as HB; icombine Hlev HB as HB; icombine HO HB as HB; iapply (step_barWait m ρ K c rfl) $$ Hrec HB; iintro ⟨HO, Hab, Hslots⟩
  ihave Hs := (snd_split m ρ c) $$ Hs; icases Hs with ⟨Hrow, Hrows⟩
  icombine Hslots Htok as HS; icombine Hrows HS as HS; icombine HO HS as HS; ihave HS := (send_intro m ρ c) $$ HS
  rw [k0_part5_eq_skeleton]; unfold k0_part5_skel; simp only [Prog.lift, Prog.bind_op, Prog.bind_ret, Prog.pure_eq_ret]
  iapply (step_send m ρ K c 1 (by decide) (by decide) (Fin.ext (k0_dev16_eq c)) (off6_up c 0) (k0_off5_eq c) (send_sem (sj 1)) (recv_sem (k0_off4_eq c))) $$ Hrec HS; iintro HS
  iapply (step_send m ρ K c 2 (by decide) (by decide) (Fin.ext (k0_dev17_eq c)) (off6_up c 1) (k0_off5_eq c) (send_sem (sj 2)) (recv_sem (k0_off4_eq c))) $$ Hrec HS; iintro HS
  rw [k0_part6_eq_skeleton]; unfold k0_part6_skel; simp only [Prog.lift, Prog.bind_op, Prog.bind_ret, Prog.pure_eq_ret]
  iapply (step_send m ρ K c 3 (by decide) (by decide) (Fin.ext (k0_dev18_eq c)) (off6_up c 2) (k0_off5_eq c) (send_sem (sj 3)) (recv_sem (k0_off4_eq c))) $$ Hrec HS; iintro HS
  iapply (step_send m ρ K c 4 (by decide) (by decide) (Fin.ext (k0_dev19_eq c)) (off6_up c 3) (k0_off5_eq c) (send_sem (sj 4)) (recv_sem (k0_off4_eq c))) $$ Hrec HS; iintro HS
  iapply (step_send m ρ K c 5 (by decide) (by decide) (Fin.ext (k0_dev20_eq c)) (off6_up c 4) (k0_off5_eq c) (send_sem (sj 5)) (recv_sem (k0_off4_eq c))) $$ Hrec HS; iintro HS
  rw [k0_part7_eq_skeleton]; unfold k0_part7_skel; simp only [Prog.lift, Prog.bind_op, Prog.bind_ret, Prog.pure_eq_ret]
  iapply (step_send m ρ K c 6 (by decide) (by decide) (Fin.ext (k0_dev21_eq c)) (off6_up c 5) (k0_off5_eq c) (send_sem (sj 6)) (recv_sem (k0_off4_eq c))) $$ Hrec HS; iintro HS
  iapply (step_send m ρ K c 7 (by decide) (by decide) (Fin.ext (k0_dev22_eq c)) (off6_up c 6) (k0_off5_eq c) (send_sem (sj 7)) (recv_sem (k0_off4_eq c))) $$ Hrec HS; iintro HS
  iapply (step_send m ρ K c 8 (by decide) (by decide) (Fin.ext (k0_dev23_eq c)) (off6_up c 7) (k0_off5_eq c) (send_sem (sj 8)) (recv_sem (k0_off4_eq c))) $$ Hrec HS; iintro HS
  rw [k0_part8_eq_skeleton]; unfold k0_part8_skel; simp only [Prog.lift, Prog.bind_op, Prog.bind_ret, Prog.pure_eq_ret]
  iapply (step_send m ρ K c 9 (by decide) (by decide) (Fin.ext (k0_dev24_eq c)) (off6_up c 8) (k0_off5_eq c) (send_sem (sj 9)) (recv_sem (k0_off4_eq c))) $$ Hrec HS; iintro HS
  iapply (step_send m ρ K c 10 (by decide) (by decide) (Fin.ext (k0_dev25_eq c)) (off6_up c 9) (k0_off5_eq c) (send_sem (sj 10)) (recv_sem (k0_off4_eq c))) $$ Hrec HS; iintro HS
  rw [k0_part9_eq_skeleton]; unfold k0_part9_skel; simp only [Prog.lift, Prog.bind_op, Prog.bind_ret, Prog.pure_eq_ret]
  iapply (step_send m ρ K c 11 (by decide) (by decide) (Fin.ext (k0_dev26_eq c)) (off6_up c 10) (k0_off5_eq c) (send_sem (sj 11)) (recv_sem (k0_off4_eq c))) $$ Hrec HS; iintro HS
  iapply (step_send m ρ K c 12 (by decide) (by decide) (Fin.ext (k0_dev27_eq c)) (off6_up c 11) (k0_off5_eq c) (send_sem (sj 12)) (recv_sem (k0_off4_eq c))) $$ Hrec HS; iintro HS
  iapply (step_send m ρ K c 13 (by decide) (by decide) (Fin.ext (k0_dev28_eq c)) (off6_up c 12) (k0_off5_eq c) (send_sem (sj 13)) (recv_sem (k0_off4_eq c))) $$ Hrec HS; iintro HS
  rw [k0_part10_eq_skeleton]; unfold k0_part10_skel; simp only [Prog.lift, Prog.bind_op, Prog.bind_ret, Prog.pure_eq_ret]
  iapply (step_send m ρ K c 14 (by decide) (by decide) (Fin.ext (k0_dev29_eq c)) (off6_up c 13) (k0_off5_eq c) (send_sem (sj 14)) (recv_sem (k0_off4_eq c))) $$ Hrec HS; iintro HS
  iapply (step_send m ρ K c 15 (by decide) (by decide) (Fin.ext (k0_dev30_eq c)) (off6_up c 14) (k0_off5_eq c) (send_sem (sj 15)) (recv_sem (k0_off4_eq c))) $$ Hrec HS; iintro HS
  ihave HS := (send_elim m ρ c) $$ HS; icases HS with ⟨HO, Hcr⟩
  icombine Hcr Hats as HL; ihave HL := (left_intro m ρ c) $$ HL
  icombine HW HO as HW; iapply (step_wwait m c 3 0 (by decide) (w_sem (wj 0))) $$ HW; iintro ⟨HW, Hw, HO⟩
  ihave Hown0 := (Entails.of_eq (show slotFull m ρ c c = slotFull m ρ c (dn c 0) from by rw [dn_zero])) $$ Hown; unfold slotFull
  iapply (step_slot c (dn c 0) (off7_dn c 0)) $$ Hown0; iintro Hown0; ihave Hown0 := (Entails.of_eq (show (owns (c : Thread nD τ) (slotM (dn c 0)) fullShare (blk m ρ (dn c 0) c) : sProp 𝕄) = slotFull m ρ c c from by rw [dn_zero]; rfl)) $$ Hown0
  rw [k0_part11_eq_skeleton]; unfold k0_part11_skel; simp only [Prog.lift, Prog.bind_op, Prog.bind_ret, Prog.pure_eq_ret]
  iapply (step_wslot m c 0 rfl) $$ Hw; iintro Hw
  iapply (step_oload c) $$ Ho; iintro Ho
  iapply (step_ostore c (w' := accv m ρ c 0) rfl) $$ Ho; iintro Ho
  icombine HW Hw as HW; ihave HW := (w_release m c 3 0 (by decide)) $$ HW
  iapply (step_wstart m c 3 1 (by decide) (by decide) (by decide) (off1_dn c 3) rfl (w_sem (wj 3))) $$ HW; iintro HW
  icombine HW HO as HW; iapply (step_wwait m c 4 1 (by decide) (w_sem (wj 1))) $$ HW; iintro ⟨HW, Hw, HO⟩
  rw [k0_part12_eq_skeleton]; unfold k0_part12_skel; simp only [Prog.lift, Prog.bind_op, Prog.bind_ret, Prog.pure_eq_ret]
  icombine HR HO as HR; iapply (step_recv m ρ K c 1 (by decide) (by decide) (recv_sem (off8_dn c 0))) $$ Hrec HR; iintro ⟨HR, HO⟩
  iapply (step_block m ρ c 1 (by decide) (off7_dn c 1)) $$ HR; iintro HR
  iapply (step_wslot m c 1 rfl) $$ Hw; iintro Hw
  iapply (step_oload c) $$ Ho; iintro Ho
  iapply (step_oload c) $$ Ho; iintro Ho
  iapply (step_ostore c (w' := accv m ρ c 1) rfl) $$ Ho; iintro Ho
  icombine HW Hw as HW; ihave HW := (w_release m c 4 1 (by decide)) $$ HW
  iapply (step_wstart m c 4 2 (by decide) (by decide) (by decide) (off1_dn c 4) rfl (w_sem (wj 4))) $$ HW; iintro HW
  rw [k0_part13_eq_skeleton]; unfold k0_part13_skel; simp only [Prog.lift, Prog.bind_op, Prog.bind_ret, Prog.pure_eq_ret]
  icombine HW HO as HW; iapply (step_wwait m c 5 2 (by decide) (w_sem (wj 2))) $$ HW; iintro ⟨HW, Hw, HO⟩
  icombine HR HO as HR; iapply (step_recv m ρ K c 2 (by decide) (by decide) (recv_sem (off8_dn c 1))) $$ Hrec HR; iintro ⟨HR, HO⟩
  iapply (step_block m ρ c 2 (by decide) (off7_dn c 2)) $$ HR; iintro HR
  iapply (step_wslot m c 2 rfl) $$ Hw; iintro Hw
  iapply (step_oload c) $$ Ho; iintro Ho
  iapply (step_oload c) $$ Ho; iintro Ho
  iapply (step_ostore c (w' := accv m ρ c 2) rfl) $$ Ho; iintro Ho
  icombine HW Hw as HW; ihave HW := (w_release m c 5 2 (by decide)) $$ HW
  rw [k0_part14_eq_skeleton]; unfold k0_part14_skel; simp only [Prog.lift, Prog.bind_op, Prog.bind_ret, Prog.pure_eq_ret]
  iapply (step_wstart m c 5 3 (by decide) (by decide) (by decide) (off1_dn c 5) rfl (w_sem (wj 5))) $$ HW; iintro HW
  icombine HW HO as HW; iapply (step_wwait m c 6 3 (by decide) (w_sem (wj 3))) $$ HW; iintro ⟨HW, Hw, HO⟩
  icombine HR HO as HR; iapply (step_recv m ρ K c 3 (by decide) (by decide) (recv_sem (off8_dn c 2))) $$ Hrec HR; iintro ⟨HR, HO⟩
  iapply (step_block m ρ c 3 (by decide) (off7_dn c 3)) $$ HR; iintro HR
  rw [k0_part15_eq_skeleton]; unfold k0_part15_skel; simp only [Prog.lift, Prog.bind_op, Prog.bind_ret, Prog.pure_eq_ret]
  iapply (step_wslot m c 3 rfl) $$ Hw; iintro Hw
  iapply (step_oload c) $$ Ho; iintro Ho
  iapply (step_oload c) $$ Ho; iintro Ho
  iapply (step_ostore c (w' := accv m ρ c 3) rfl) $$ Ho; iintro Ho
  icombine HW Hw as HW; ihave HW := (w_release m c 6 3 (by decide)) $$ HW
  iapply (step_wstart m c 6 4 (by decide) (by decide) (by decide) (off1_dn c 6) rfl (w_sem (wj 6))) $$ HW; iintro HW
  icombine HW HO as HW; iapply (step_wwait m c 7 4 (by decide) (w_sem (wj 4))) $$ HW; iintro ⟨HW, Hw, HO⟩
  rw [k0_part16_eq_skeleton]; unfold k0_part16_skel; simp only [Prog.lift, Prog.bind_op, Prog.bind_ret, Prog.pure_eq_ret]
  icombine HR HO as HR; iapply (step_recv m ρ K c 4 (by decide) (by decide) (recv_sem (off8_dn c 3))) $$ Hrec HR; iintro ⟨HR, HO⟩
  iapply (step_block m ρ c 4 (by decide) (off7_dn c 4)) $$ HR; iintro HR
  iapply (step_wslot m c 4 rfl) $$ Hw; iintro Hw
  iapply (step_oload c) $$ Ho; iintro Ho
  iapply (step_oload c) $$ Ho; iintro Ho
  iapply (step_ostore c (w' := accv m ρ c 4) rfl) $$ Ho; iintro Ho
  icombine HW Hw as HW; ihave HW := (w_release m c 7 4 (by decide)) $$ HW
  iapply (step_wstart m c 7 5 (by decide) (by decide) (by decide) (off1_dn c 7) rfl (w_sem (wj 7))) $$ HW; iintro HW
  rw [k0_part17_eq_skeleton]; unfold k0_part17_skel; simp only [Prog.lift, Prog.bind_op, Prog.bind_ret, Prog.pure_eq_ret]
  icombine HW HO as HW; iapply (step_wwait m c 8 5 (by decide) (w_sem (wj 5))) $$ HW; iintro ⟨HW, Hw, HO⟩
  icombine HR HO as HR; iapply (step_recv m ρ K c 5 (by decide) (by decide) (recv_sem (off8_dn c 4))) $$ Hrec HR; iintro ⟨HR, HO⟩
  iapply (step_block m ρ c 5 (by decide) (off7_dn c 5)) $$ HR; iintro HR
  iapply (step_wslot m c 5 rfl) $$ Hw; iintro Hw
  iapply (step_oload c) $$ Ho; iintro Ho
  iapply (step_oload c) $$ Ho; iintro Ho
  iapply (step_ostore c (w' := accv m ρ c 5) rfl) $$ Ho; iintro Ho
  icombine HW Hw as HW; ihave HW := (w_release m c 8 5 (by decide)) $$ HW
  rw [k0_part18_eq_skeleton]; unfold k0_part18_skel; simp only [Prog.lift, Prog.bind_op, Prog.bind_ret, Prog.pure_eq_ret]
  iapply (step_wstart m c 8 6 (by decide) (by decide) (by decide) (off1_dn c 8) rfl (w_sem (wj 8))) $$ HW; iintro HW
  icombine HW HO as HW; iapply (step_wwait m c 9 6 (by decide) (w_sem (wj 6))) $$ HW; iintro ⟨HW, Hw, HO⟩
  icombine HR HO as HR; iapply (step_recv m ρ K c 6 (by decide) (by decide) (recv_sem (off8_dn c 5))) $$ Hrec HR; iintro ⟨HR, HO⟩
  iapply (step_block m ρ c 6 (by decide) (off7_dn c 6)) $$ HR; iintro HR
  rw [k0_part19_eq_skeleton]; unfold k0_part19_skel; simp only [Prog.lift, Prog.bind_op, Prog.bind_ret, Prog.pure_eq_ret]
  iapply (step_wslot m c 6 rfl) $$ Hw; iintro Hw
  iapply (step_oload c) $$ Ho; iintro Ho
  iapply (step_oload c) $$ Ho; iintro Ho
  iapply (step_ostore c (w' := accv m ρ c 6) rfl) $$ Ho; iintro Ho
  icombine HW Hw as HW; ihave HW := (w_release m c 9 6 (by decide)) $$ HW
  iapply (step_wstart m c 9 7 (by decide) (by decide) (by decide) (off1_dn c 9) rfl (w_sem (wj 9))) $$ HW; iintro HW
  icombine HW HO as HW; iapply (step_wwait m c 10 7 (by decide) (w_sem (wj 7))) $$ HW; iintro ⟨HW, Hw, HO⟩
  rw [k0_part20_eq_skeleton]; unfold k0_part20_skel; simp only [Prog.lift, Prog.bind_op, Prog.bind_ret, Prog.pure_eq_ret]
  icombine HR HO as HR; iapply (step_recv m ρ K c 7 (by decide) (by decide) (recv_sem (off8_dn c 6))) $$ Hrec HR; iintro ⟨HR, HO⟩
  iapply (step_block m ρ c 7 (by decide) (off7_dn c 7)) $$ HR; iintro HR
  iapply (step_wslot m c 7 rfl) $$ Hw; iintro Hw
  iapply (step_oload c) $$ Ho; iintro Ho
  iapply (step_oload c) $$ Ho; iintro Ho
  iapply (step_ostore c (w' := accv m ρ c 7) rfl) $$ Ho; iintro Ho
  icombine HW Hw as HW; ihave HW := (w_release m c 10 7 (by decide)) $$ HW
  iapply (step_wstart m c 10 8 (by decide) (by decide) (by decide) (off1_dn c 10) rfl (w_sem (wj 10))) $$ HW; iintro HW
  rw [k0_part21_eq_skeleton]; unfold k0_part21_skel; simp only [Prog.lift, Prog.bind_op, Prog.bind_ret, Prog.pure_eq_ret]
  icombine HW HO as HW; iapply (step_wwait m c 11 8 (by decide) (w_sem (wj 8))) $$ HW; iintro ⟨HW, Hw, HO⟩
  icombine HR HO as HR; iapply (step_recv m ρ K c 8 (by decide) (by decide) (recv_sem (off8_dn c 7))) $$ Hrec HR; iintro ⟨HR, HO⟩
  iapply (step_block m ρ c 8 (by decide) (off7_dn c 8)) $$ HR; iintro HR
  iapply (step_wslot m c 8 rfl) $$ Hw; iintro Hw
  iapply (step_oload c) $$ Ho; iintro Ho
  iapply (step_oload c) $$ Ho; iintro Ho
  iapply (step_ostore c (w' := accv m ρ c 8) rfl) $$ Ho; iintro Ho
  icombine HW Hw as HW; ihave HW := (w_release m c 11 8 (by decide)) $$ HW
  rw [k0_part22_eq_skeleton]; unfold k0_part22_skel; simp only [Prog.lift, Prog.bind_op, Prog.bind_ret, Prog.pure_eq_ret]
  iapply (step_wstart m c 11 9 (by decide) (by decide) (by decide) (off1_dn c 11) rfl (w_sem (wj 11))) $$ HW; iintro HW
  icombine HW HO as HW; iapply (step_wwait m c 12 9 (by decide) (w_sem (wj 9))) $$ HW; iintro ⟨HW, Hw, HO⟩
  icombine HR HO as HR; iapply (step_recv m ρ K c 9 (by decide) (by decide) (recv_sem (off8_dn c 8))) $$ Hrec HR; iintro ⟨HR, HO⟩
  rw [k0_part23_eq_skeleton]; unfold k0_part23_skel; simp only [Prog.lift, Prog.bind_op, Prog.bind_ret, Prog.pure_eq_ret]
  iapply (step_block m ρ c 9 (by decide) (off7_dn c 9)) $$ HR; iintro HR
  iapply (step_wslot m c 9 rfl) $$ Hw; iintro Hw
  iapply (step_oload c) $$ Ho; iintro Ho
  iapply (step_oload c) $$ Ho; iintro Ho
  iapply (step_ostore c (w' := accv m ρ c 9) rfl) $$ Ho; iintro Ho
  icombine HW Hw as HW; ihave HW := (w_release m c 12 9 (by decide)) $$ HW
  iapply (step_wstart m c 12 10 (by decide) (by decide) (by decide) (off1_dn c 12) rfl (w_sem (wj 12))) $$ HW; iintro HW
  icombine HW HO as HW; iapply (step_wwait m c 13 10 (by decide) (w_sem (wj 10))) $$ HW; iintro ⟨HW, Hw, HO⟩
  rw [k0_part24_eq_skeleton]; unfold k0_part24_skel; simp only [Prog.lift, Prog.bind_op, Prog.bind_ret, Prog.pure_eq_ret]
  icombine HR HO as HR; iapply (step_recv m ρ K c 10 (by decide) (by decide) (recv_sem (off8_dn c 9))) $$ Hrec HR; iintro ⟨HR, HO⟩
  iapply (step_block m ρ c 10 (by decide) (off7_dn c 10)) $$ HR; iintro HR
  iapply (step_wslot m c 10 rfl) $$ Hw; iintro Hw
  iapply (step_oload c) $$ Ho; iintro Ho
  iapply (step_oload c) $$ Ho; iintro Ho
  iapply (step_ostore c (w' := accv m ρ c 10) rfl) $$ Ho; iintro Ho
  icombine HW Hw as HW; ihave HW := (w_release m c 13 10 (by decide)) $$ HW
  rw [k0_part25_eq_skeleton]; unfold k0_part25_skel; simp only [Prog.lift, Prog.bind_op, Prog.bind_ret, Prog.pure_eq_ret]
  iapply (step_wstart m c 13 11 (by decide) (by decide) (by decide) (off1_dn c 13) rfl (w_sem (wj 13))) $$ HW; iintro HW
  icombine HW HO as HW; iapply (step_wwait m c 14 11 (by decide) (w_sem (wj 11))) $$ HW; iintro ⟨HW, Hw, HO⟩
  icombine HR HO as HR; iapply (step_recv m ρ K c 11 (by decide) (by decide) (recv_sem (off8_dn c 10))) $$ Hrec HR; iintro ⟨HR, HO⟩
  iapply (step_block m ρ c 11 (by decide) (off7_dn c 11)) $$ HR; iintro HR
  iapply (step_wslot m c 11 rfl) $$ Hw; iintro Hw
  iapply (step_oload c) $$ Ho; iintro Ho
  rw [k0_part26_eq_skeleton]; unfold k0_part26_skel; simp only [Prog.lift, Prog.bind_op, Prog.bind_ret, Prog.pure_eq_ret]
  iapply (step_oload c) $$ Ho; iintro Ho
  iapply (step_ostore c (w' := accv m ρ c 11) rfl) $$ Ho; iintro Ho
  icombine HW Hw as HW; ihave HW := (w_release m c 14 11 (by decide)) $$ HW
  iapply (step_wstart m c 14 12 (by decide) (by decide) (by decide) (off1_dn c 14) rfl (w_sem (wj 14))) $$ HW; iintro HW
  icombine HW HO as HW; iapply (step_wwait m c 15 12 (by decide) (w_sem (wj 12))) $$ HW; iintro ⟨HW, Hw, HO⟩
  rw [k0_part27_eq_skeleton]; unfold k0_part27_skel; simp only [Prog.lift, Prog.bind_op, Prog.bind_ret, Prog.pure_eq_ret]
  icombine HR HO as HR; iapply (step_recv m ρ K c 12 (by decide) (by decide) (recv_sem (off8_dn c 11))) $$ Hrec HR; iintro ⟨HR, HO⟩
  iapply (step_block m ρ c 12 (by decide) (off7_dn c 12)) $$ HR; iintro HR
  iapply (step_wslot m c 12 rfl) $$ Hw; iintro Hw
  iapply (step_oload c) $$ Ho; iintro Ho
  iapply (step_oload c) $$ Ho; iintro Ho
  iapply (step_ostore c (w' := accv m ρ c 12) rfl) $$ Ho; iintro Ho
  icombine HW Hw as HW; ihave HW := (w_release m c 15 12 (by decide)) $$ HW
  iapply (step_wstart m c 15 13 (by decide) (by decide) (by decide) (off1_dn c 15) rfl (w_sem (wj 15))) $$ HW; iintro HW
  rw [k0_part28_eq_skeleton]; unfold k0_part28_skel; simp only [Prog.lift, Prog.bind_op, Prog.bind_ret, Prog.pure_eq_ret]
  icombine HW HO as HW; iapply (step_wwait m c 16 13 (by decide) (w_sem (wj 13))) $$ HW; iintro ⟨HW, Hw, HO⟩
  icombine HR HO as HR; iapply (step_recv m ρ K c 13 (by decide) (by decide) (recv_sem (off8_dn c 12))) $$ Hrec HR; iintro ⟨HR, HO⟩
  iapply (step_block m ρ c 13 (by decide) (off7_dn c 13)) $$ HR; iintro HR
  iapply (step_wslot m c 13 rfl) $$ Hw; iintro Hw
  iapply (step_oload c) $$ Ho; iintro Ho
  iapply (step_oload c) $$ Ho; iintro Ho
  iapply (step_ostore c (w' := accv m ρ c 13) rfl) $$ Ho; iintro Ho
  icombine HW Hw as HW; ihave HW := (w_release m c 16 13 (by decide)) $$ HW
  rw [k0_part29_eq_skeleton]; unfold k0_part29_skel; simp only [Prog.lift, Prog.bind_op, Prog.bind_ret, Prog.pure_eq_ret]
  icombine HW HO as HW; iapply (step_wwait m c 16 14 (by decide) (w_sem (wj 14))) $$ HW; iintro ⟨HW, Hw, HO⟩
  icombine HR HO as HR; iapply (step_recv m ρ K c 14 (by decide) (by decide) (recv_sem (off8_dn c 13))) $$ Hrec HR; iintro ⟨HR, HO⟩
  iapply (step_block m ρ c 14 (by decide) (off7_dn c 14)) $$ HR; iintro HR
  iapply (step_wslot m c 14 rfl) $$ Hw; iintro Hw
  iapply (step_oload c) $$ Ho; iintro Ho
  iapply (step_oload c) $$ Ho; iintro Ho
  iapply (step_ostore c (w' := accv m ρ c 14) rfl) $$ Ho; iintro Ho
  icombine HW Hw as HW; ihave HW := (w_release m c 16 14 (by decide)) $$ HW
  rw [k0_part30_eq_skeleton]; unfold k0_part30_skel; simp only [Prog.lift, Prog.bind_op, Prog.bind_ret, Prog.pure_eq_ret]
  icombine HW HO as HW; iapply (step_wwait m c 16 15 (by decide) (w_sem (wj 15))) $$ HW; iintro ⟨HW, Hw, HO⟩
  icombine HR HO as HR; iapply (step_recv m ρ K c 15 (by decide) (by decide) (recv_sem (off8_dn c 14))) $$ Hrec HR; iintro ⟨HR, HO⟩
  iapply (step_block m ρ c 15 (by decide) (off7_dn c 15)) $$ HR; iintro HR
  iapply (step_wchunk m c 0 rfl) $$ Hw; iintro Hw
  iapply (step_ochunk c 0 rfl) $$ Ho; iintro Ho
  rw [k0_part31_eq_skeleton]; unfold k0_part31_skel; simp only [Prog.lift, Prog.bind_op, Prog.bind_ret, Prog.pure_eq_ret]
  iapply (step_ochunk c 0 rfl) $$ Ho; iintro Ho
  iapply (step_tail m ρ c 0 rfl rfl) $$ Ho; iintro Ho
  iapply (step_block m ρ c 15 (by decide) (off7_dn c 15)) $$ HR; iintro HR
  iapply (step_wchunk m c 1 rfl) $$ Hw; iintro Hw
  iapply (step_ochunk c 1 rfl) $$ Ho; iintro Ho
  iapply (step_ochunk c 1 rfl) $$ Ho; iintro Ho
  iapply (step_tail m ρ c 1 rfl rfl) $$ Ho; iintro Ho
  iapply (step_block m ρ c 15 (by decide) (off7_dn c 15)) $$ HR; iintro HR
  iapply (step_wchunk m c 2 rfl) $$ Hw; iintro Hw
  rw [k0_part32_eq_skeleton]; unfold k0_part32_skel; simp only [Prog.lift, Prog.bind_op, Prog.bind_ret, Prog.pure_eq_ret]
  iapply (step_ochunk c 2 rfl) $$ Ho; iintro Ho
  iapply (step_ochunk c 2 rfl) $$ Ho; iintro Ho
  iapply (step_tail m ρ c 2 rfl rfl) $$ Ho; iintro Ho
  iapply (step_block m ρ c 15 (by decide) (off7_dn c 15)) $$ HR; iintro HR
  iapply (step_wchunk m c 3 rfl) $$ Hw; iintro Hw
  iapply (step_ochunk c 3 rfl) $$ Ho; iintro Ho
  rw [k0_part33_eq_skeleton]; unfold k0_part33_skel; simp only [Prog.lift, Prog.bind_op, Prog.bind_ret, Prog.pure_eq_ret]
  iapply (step_ochunk c 3 rfl) $$ Ho; iintro Ho
  iapply (step_tail m ρ c 3 rfl rfl) $$ Ho; iintro Ho
  icombine HW Hw as HW; ihave HW := (w_release m c 16 15 (by decide)) $$ HW
  icombine HL HO as HL
  iapply (step_left m ρ K c 1 (by decide) (by decide) (send_sem (sj 1))) $$ Hrec HL; iintro HL
  iapply (step_left m ρ K c 2 (by decide) (by decide) (send_sem (sj 2))) $$ Hrec HL; iintro HL
  iapply (step_left m ρ K c 3 (by decide) (by decide) (send_sem (sj 3))) $$ Hrec HL; iintro HL
  iapply (step_left m ρ K c 4 (by decide) (by decide) (send_sem (sj 4))) $$ Hrec HL; iintro HL
  iapply (step_left m ρ K c 5 (by decide) (by decide) (send_sem (sj 5))) $$ Hrec HL; iintro HL
  rw [k0_part34_eq_skeleton]; unfold k0_part34_skel; simp only [Prog.lift, Prog.bind_op, Prog.bind_ret, Prog.pure_eq_ret]
  iapply (step_left m ρ K c 6 (by decide) (by decide) (send_sem (sj 6))) $$ Hrec HL; iintro HL
  iapply (step_left m ρ K c 7 (by decide) (by decide) (send_sem (sj 7))) $$ Hrec HL; iintro HL
  iapply (step_left m ρ K c 8 (by decide) (by decide) (send_sem (sj 8))) $$ Hrec HL; iintro HL
  iapply (step_left m ρ K c 9 (by decide) (by decide) (send_sem (sj 9))) $$ Hrec HL; iintro HL
  iapply (step_left m ρ K c 10 (by decide) (by decide) (send_sem (sj 10))) $$ Hrec HL; iintro HL
  iapply (step_left m ρ K c 11 (by decide) (by decide) (send_sem (sj 11))) $$ Hrec HL; iintro HL
  iapply (step_left m ρ K c 12 (by decide) (by decide) (send_sem (sj 12))) $$ Hrec HL; iintro HL
  iapply (step_left m ρ K c 13 (by decide) (by decide) (send_sem (sj 13))) $$ Hrec HL; iintro HL
  iapply (step_left m ρ K c 14 (by decide) (by decide) (send_sem (sj 14))) $$ Hrec HL; iintro HL
  iapply (step_left m ρ K c 15 (by decide) (by decide) (send_sem (sj 15))) $$ Hrec HL; iintro HL
  icases HL with ⟨HL, HO⟩
  unfold run
  rw [wp_ret]; imodintro
  iapply Hk
  unfold BodyOut
  isplitl [HO]; · iexact HO
  isplitl [Hab]; · iexact Hab
  isplitl [Hx]; · iexact Hx
  isplitl [Ho]; · iexact Ho
  isplitl [Hrow]; · iexact Hrow
  isplitl [Hown0]; · iexact Hown0
  isplitl [HL]; · iexact HL
  isplitl [HR]; · iexact HR
  iexact HW

end Cert.A2A
-- ==== Proof.Close.lean ====
/-
# Before and after a device's run

What the launch deals a device, split into what its run starts from: the receive buffer into its slots, `w` into its row
blocks, the slots of the streamed row blocks with their cells. And what the run ends with, joined into what the launch takes
back: the buffers whole, every cell closed with its counter at zero.
-/
module

public import proofs.«01_k».proof.Proof.Run

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × KI → ℕ)

/-! ## The finite families by distance -/

theorem image_sj : (Finset.Ico 1 16).image sj = Finset.univ := by decide
theorem sj_inj : ∀ a ∈ Finset.Ico 1 16, ∀ b ∈ Finset.Ico 1 16, sj a = sj b → a = b := by decide
theorem bigSep_sj (A : Fin 15 → sProp 𝕄) : bigSep Finset.univ A = bigSep (Finset.Ico 1 16) fun d => A (sj d) := by
  rw [← image_sj]; exact bigSep_image_inj sj_inj A
theorem image_wj : (Finset.Ico 0 3).image wj = Finset.univ := by decide
theorem wj_inj : ∀ a ∈ Finset.Ico 0 3, ∀ b ∈ Finset.Ico 0 3, wj a = wj b → a = b := by decide
theorem bigSep_wj (A : Fin 3 → sProp 𝕄) : bigSep Finset.univ A = bigSep (Finset.Ico 0 3) fun u => A (wj u) := by
  rw [← image_wj]; exact bigSep_image_inj wj_inj A
theorem image_wj' : (Finset.Ico 16 19).image wj = Finset.univ := by decide
theorem wj_inj' : ∀ a ∈ Finset.Ico 16 19, ∀ b ∈ Finset.Ico 16 19, wj a = wj b → a = b := by decide
theorem bigSep_wj' (A : Fin 3 → sProp 𝕄) : bigSep Finset.univ A = bigSep (Finset.Ico 16 19) fun u => A (wj u) := by
  rw [← image_wj']; exact bigSep_image_inj wj_inj' A

/-- A conjunction over the cells of a device, kind by kind and by distance. -/
theorem bigSep_KI (c : Dev nD) (A : KI → sProp 𝕄) : bigSep Finset.univ A
    = iprop(A (.inl ()) ∗ bigSep (Finset.Ico 1 16) (fun d => A (.inr (.inl (sj d))))
        ∗ A (.inr (.inr c)) ∗ bigSep (Finset.Ico 1 16) fun d => A (.inr (.inr (dn c d)))) := by
  rw [bigSep_univ_sum, bigSep_univ_sum, bigSep_sj]
  have h1 : bigSep Finset.univ (fun a : Unit => A (.inl a)) = A (.inl ()) := bigSep_singleton
  have h2 : bigSep Finset.univ (fun k : Fin 16 => A (.inr (.inr k)))
      = iprop(A (.inr (.inr c)) ∗ bigSep (Finset.Ico 1 16) fun d => A (.inr (.inr (dn c d)))) := by
    refine (bigSep_erase_univ c fun k : Dev nD => A (.inr (.inr k))).trans ?_
    rw [bigSep_dn_one c fun k : Dev nD => A (.inr (.inr k))]
  rw [h1, h2]; rfl

/-! ## The buffers -/

theorem owns_any (t : Thread nD τ) {sp : Space} {sh : Shape} {e : EltTy} (b : Memref sig t.2.kind sp sh e) (f : b.view.ty.Contents (Elt F)) :
    (b.view.loc t ↦[b.view.set]{fullShare} f : sProp 𝕄) ⊢ iprop(∃ X, owns t b fullShare X) := by
  iintro H; iexists _
  iapply (owns_intro t b fullShare f); iexact H
theorem owns_some (t : Thread nD τ) {sp : Space} {sh : Shape} {e : EltTy} (b : Memref sig t.2.kind sp sh e) (X : Vec F sh e) :
    (owns t b fullShare X : sProp 𝕄) ⊢ iprop(∃ f, b.view.loc t ↦[b.view.set]{fullShare} f) := by
  unfold owns
  iintro ⟨%f, -, H⟩; iexists f; iexact H
theorem any_some (t : Thread nD τ) {sp : Space} {sh : Shape} {e : EltTy} (b : Memref sig t.2.kind sp sh e) :
    (iprop(∃ X, owns t b fullShare X) : sProp 𝕄) ⊢ iprop(∃ f, b.view.loc t ↦[b.view.set]{fullShare} f) := by
  iintro ⟨%X, H⟩
  iapply (owns_some t b X); iexact H

theorem slots_open (c : Dev nD) (f : Buf (Elt F) ((c : Thread nD τ).loc cc0_scratch0)) : ((c : Thread nD τ).loc cc0_scratch0 ↦{fullShare} f : sProp 𝕄)
    ⊢ iprop(slotAny c c ∗ bigSep (Finset.Ico 1 16) fun d => slotAny c (up c d)) := by
  rw [Ring.pointsTo_blocks (ℓ := (c : Thread nD τ).loc cc0_scratch0) slotSet slot_disjoint slot_cover f]
  refine (bigSep_mono (Ψ := fun k => slotAny c k) fun k _ => ?_).trans ?_
  · exact owns_any (c : Thread nD τ) (slotM k) f
  · rw [← bigSep_up c fun k => slotAny c k]
    exact Entails.of_eq (bigSep_erase_univ c fun k => slotAny c k)

theorem wslots_open (c : Dev nD) (f : Buf (Elt F) ((c : Thread nD τ).loc cc0_scratch2)) :
    iprop(((c : Thread nD τ).loc cc0_scratch2 ↦{fullShare} f) ∗ bigSep Finset.univ fun k : Fin 3 => semVal ((c : Thread nD τ), .dma (wS k)) 0)
    ⊢ (bigSep (Finset.Ico 0 3) (wany (F := F) c) : sProp 𝕄) := by
  rw [Ring.pointsTo_blocks (ℓ := (c : Thread nD τ).loc cc0_scratch2) wslotSet wslot_disjoint wslot_cover f]
  have h : bigSep (Finset.Ico 0 3) (wany (F := F) c)
      = bigSep Finset.univ fun k : Fin 3 => iprop((∃ X, owns (c : Thread nD τ) (wslotM k) fullShare X) ∗ semVal ((c : Thread nD τ), .dma (wS k)) 0) :=
    (bigSep_wj fun k : Fin 3 => iprop((∃ X, owns (c : Thread nD τ) (wslotM k) fullShare X) ∗ semVal ((c : Thread nD τ), .dma (wS k)) 0)).symm
  rw [h, sep_bigSep]
  exact sep_mono_left (bigSep_mono fun k _ => owns_any (c : Thread nD τ) (wslotM k) f)

theorem w_rows (c : Dev nD) : (((c : Thread nD τ).loc main_arg1 ↦{fullShare} wAt m c) : sProp 𝕄) = bigSep (Finset.Ico 0 16) (wsrc m c) := by
  rw [Ring.pointsTo_blocks (ℓ := (c : Thread nD τ).loc main_arg1) wrowSet wrow_disjoint wrow_cover (wAt m c)]
  exact bigSep_dn c fun k => iprop((wrowM k).view.loc (c : Thread nD τ) ↦[(wrowM k).view.set]{fullShare} wAt m c)

theorem WSt_open (c : Dev nD) (f : Buf (Elt F) ((c : Thread nD τ).loc cc0_scratch2)) :
    iprop(((c : Thread nD τ).loc main_arg1 ↦{fullShare} wAt m c) ∗ ((c : Thread nD τ).loc cc0_scratch2 ↦{fullShare} f)
      ∗ bigSep Finset.univ fun k : Fin 3 => semVal ((c : Thread nD τ), .dma (wS k)) 0) ⊢ (WSt m c 0 0 : sProp 𝕄) := by
  unfold WSt
  rw [w_rows, Finset.Ico_self, bigSep_empty, bigSep_empty]
  iintro ⟨Hw, Hs⟩
  isplitl [Hw]; · iexact Hw
  isplitr; · iempintro
  isplitr; · iempintro
  iapply (wslots_open c f); iexact Hs

theorem wslots_join (c : Dev nD) : (bigSep Finset.univ fun k : Fin 3 => iprop(∃ X, owns (c : Thread nD τ) (wslotM k) fullShare X) : sProp 𝕄)
    ⊢ iprop(∃ f : Buf (Elt F) ((c : Thread nD τ).loc cc0_scratch2), (c : Thread nD τ).loc cc0_scratch2 ↦{fullShare} f) :=
  (bigSep_mono (s := Finset.univ) fun (k : Fin 3) _ => any_some (c : Thread nD τ) (wslotM k)).trans
    (Ring.pointsTo_blocks_join_exists (ℓ := (c : Thread nD τ).loc cc0_scratch2) wslotSet wslot_disjoint wslot_cover default)

theorem WSt_close (c : Dev nD) : (WSt m c 16 16 : sProp 𝕄)
    ⊢ iprop(((c : Thread nD τ).loc main_arg1 ↦{fullShare} wAt m c) ∗ (∃ f : Buf (Elt F) ((c : Thread nD τ).loc cc0_scratch2), ((c : Thread nD τ).loc cc0_scratch2 ↦{fullShare} f))
      ∗ bigSep Finset.univ fun k : Fin 3 => semVal ((c : Thread nD τ), .dma (wS k)) 0) := by
  unfold WSt
  rw [w_rows]
  iintro ⟨-, -, Hw, Hs⟩
  isplitl [Hw]; · iexact Hw
  have h : bigSep (Finset.Ico 16 (16 + 3)) (wany (F := F) c)
      = bigSep Finset.univ fun k : Fin 3 => iprop((∃ X, owns (c : Thread nD τ) (wslotM k) fullShare X) ∗ semVal ((c : Thread nD τ), .dma (wS k)) 0) :=
    (bigSep_wj' fun k : Fin 3 => iprop((∃ X, owns (c : Thread nD τ) (wslotM k) fullShare X) ∗ semVal ((c : Thread nD τ), .dma (wS k)) 0)).symm
  ihave Hs := (Entails.of_eq (h.trans (sep_bigSep _ _ _))) $$ Hs
  icases Hs with ⟨Ho, Hz⟩
  isplitl [Ho]
  · iapply (wslots_join c); iexact Ho
  iexact Hz

/-- The rows of the send buffer and the slots of the receive buffer, joined. -/
theorem rows_close (c : Dev nD) : iprop(rowFull m ρ c c ∗ bigSep (Finset.Ico 1 16) fun d => rowFull m ρ c (up c d))
    ⊢ (iprop(∃ f : Buf (Elt F) ((c : Thread nD τ).loc cc0_scratch1), (c : Thread nD τ).loc cc0_scratch1 ↦{fullShare} f) : sProp 𝕄) := by
  rw [← bigSep_up c fun k => rowFull m ρ c k]
  exact ((Entails.of_eq (bigSep_erase_univ c fun k => rowFull m ρ c k).symm).trans
    (bigSep_mono (s := Finset.univ) fun (k : Fin 16) _ => owns_some (c : Thread nD τ) (rowM k) _)).trans
    (Ring.pointsTo_blocks_join_exists (ℓ := (c : Thread nD τ).loc cc0_scratch1) rowSet row_disjoint row_cover default)
theorem slots_close (c : Dev nD) : iprop(slotFull m ρ c c ∗ bigSep (Finset.Ico 1 16) fun d => slotFull m ρ c (dn c d))
    ⊢ (iprop(∃ f : Buf (Elt F) ((c : Thread nD τ).loc cc0_scratch0), (c : Thread nD τ).loc cc0_scratch0 ↦{fullShare} f) : sProp 𝕄) := by
  rw [← bigSep_dn_one c fun k => slotFull m ρ c k]
  exact ((Entails.of_eq (bigSep_erase_univ c fun k => slotFull m ρ c k).symm).trans
    (bigSep_mono (s := Finset.univ) fun (k : Fin 16) _ => owns_some (c : Thread nD τ) (slotM k) _)).trans
    (Ring.pointsTo_blocks_join_exists (ℓ := (c : Thread nD τ).loc cc0_scratch0) slotSet slot_disjoint slot_cover default)

/-! ## The cells -/

/-- A cell whose rounds are over, in its waiter's hands. -/
def over (g : GSem nD τ sig) : sProp 𝕄 := iprop(∃ R, ⌜∀ r, R ≤ r → (Rd (F := F) m ρ).duties g r = ∅⌝ ∗ atPos ER g R ∅ 0)
theorem over_intro (g : GSem nD τ sig) : (atPos ER g 1 ∅ 0 : sProp 𝕄) ⊢ over (F := F) m ρ g := by
  unfold over
  iintro H; iexists 1; isplitr; · ipureintro; exact duties_later m ρ g
  iexact H
theorem over_self (c : Dev nD) : (atPos ER (recvCell c c) 0 ∅ 0 : sProp 𝕄) ⊢ over (F := F) m ρ (recvCell c c) := by
  unfold over
  iintro H; iexists 0; isplitr; · ipureintro; exact fun r _ => duties_self m ρ c r
  iexact H
theorem over_close (ck : Dev nD × KI) : iprop(records (F := F) m ρ K ∗ over (F := F) m ρ (kcell ck)) ⊢ |={Set.univ}=> (semVal (kcell ck) 0 : sProp 𝕄) := by
  unfold over
  iintro ⟨#Hrec, ⟨%R, %hR, H⟩⟩
  iapply (Rounds.cell_close ER (Rd (F := F) m ρ) (Set.mem_univ (K ck)) (fun h => h) (R := R) hR)
  isplitr; · iapply (records_inv m ρ K ck); iexact Hrec
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (sep_bigSep S (fun _ => R) Φ).symm).trans (bigSep_mono h))

/-- Every cell of a device closed. -/
theorem cells_close (c : Dev nD) : iprop(records (F := F) m ρ K ∗ bigSep Finset.univ fun k : KI => over (F := F) m ρ (kcell (c, k)))
    ⊢ |={Set.univ}=> (bigSep Finset.univ fun k : KI => semVal (kcell (c, k)) 0 : sProp 𝕄) :=
  (bigSep_with_persistent (R := records (F := F) m ρ K) fun k _ => over_close m ρ K (c, k)).trans (bigSep_fupd _ _)

theorem over_all (c : Dev nD) : iprop(atPos ER (barCell c) 1 ∅ 0 ∗ bigSep (Finset.Ico 1 16) (fun d => atPos ER (sendCell c (sj d)) 1 ∅ 0)
      ∗ atPos ER (recvCell c c) 0 ∅ 0 ∗ bigSep (Finset.Ico 1 16) fun d => atPos ER (recvCell c (dn c d)) 1 ∅ 0)
    ⊢ (bigSep Finset.univ fun k : KI => over (F := F) m ρ (kcell (c, k)) : sProp 𝕄) := by
  rw [bigSep_KI c]
  exact sep_mono (over_intro m ρ _) (sep_mono (bigSep_mono fun d _ => over_intro m ρ _) (sep_mono (over_self m ρ c) (bigSep_mono fun d _ => over_intro m ρ _)))

/-! ## The whole -/

/-- What a device holds beside its windows when its body starts, -/
def Φ₀ (c : Dev nD) : sProp 𝕄 :=
  iprop((∃ K, records (F := F) m ρ K) ∗ (bigSep Finset.univ fun k : KI => atPos ER (kcell (c, k)) 0 ∅ 0)
    ∗ bigSep (Finset.Ico 1 16) (fun d => dutyTok ER (barCell (up c d)) 0 c) ∗ toks c
    ∗ (bigSep Finset.univ fun k : Fin 3 => semVal ((c : Thread nD τ), .dma (wS k)) 0)
    ∗ levAts L lv ∗ cred (tallyAt (barCell c) () 15) ∗ bigSep (Finset.Ico 1 16) (fun d => cred (tallyAt (recvCell c (dn c d)) () N))
    ∗ ((c : Thread nD τ).loc main_arg1 ↦{fullShare} wAt m c)
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))
/-- and when it is done. -/
def Φ₁ (c : Dev nD) : sProp 𝕄 :=
  iprop((bigSep Finset.univ fun k : KI => semVal (kcell (c, k)) 0)
    ∗ (bigSep Finset.univ fun k : Fin 3 => semVal ((c : Thread nD τ), .dma (wS k)) 0)
    ∗ ((c : Thread nD τ).loc main_arg1 ↦{fullShare} wAt m c)
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

theorem body_open (c : Dev nD) : iprop(Φ₀ m ρ c ∗ Ow c (O₀ c) ∗ ((c : Thread nD τ).loc cc0_stg0_0 ↦{fullShare} xstg m ρ c)
      ∗ (∃ f : Vec F S256x8192 .f32, (c : Thread nD τ).loc cc0_stg1_0 ↦{fullShare} f))
    ⊢ iprop((∃ K, records (F := F) m ρ K) ∗ BodyIn m ρ c ∗ atPos ER (recvCell c c) 0 ∅ 0) := by
  unfold Φ₀ BodyIn SigSt RecvSt
  rw [bigSep_KI c, sep_bigSep, sep_bigSep, Finset.Ico_self, bigSep_empty]
  iintro ⟨⟨HK, ⟨Hab, Has, Har, Hars⟩, Htb, Ht, Hz, Hlev, Hcb, Hcr, Hw, ⟨%f0, Hb⟩, Hs, ⟨%f2, Hsl⟩⟩, HO, Hx, Ho⟩
  ihave Hb := (slots_open c f0) $$ Hb
  icases Hb with ⟨Hb0, Hb⟩
  ihave HW := (WSt_open m c f2) $$ [Hw Hsl Hz]
  · isplitl [Hw]; · iexact Hw
    isplitl [Hsl]; · iexact Hsl
    iexact Hz
  isplitl [HK]; · iexact HK
  isplitr [Har]
  · isplitl [HO Htb Hb]
    · isplitl [HO]; · iexact HO
      isplitl [Htb] <;> iassumption
    isplitl [Hlev]; · iexact Hlev
    isplitl [Hcb]; · iexact Hcb
    isplitl [Hab]; · iexact Hab
    isplitl [Hx]; · iexact Hx
    isplitl [Ho]; · iexact Ho
    isplitl [Hs]; · iexact Hs
    isplitl [Hb0]; · iexact Hb0
    isplitl [Ht]; · iexact Ht
    isplitl [Has]; · iexact Has
    isplitl [Hcr Hars]
    · isplitl
      · isplitl [Hcr]; · iexact Hcr
        iexact Hars
      iempintro
    iexact HW
  iexact Har

theorem body_close (c : Dev nD) : iprop(records (F := F) m ρ K ∗ BodyOut m ρ c ∗ atPos ER (recvCell c c) 0 ∅ 0)
    ⊢ |={Set.univ}=> iprop(Φ₁ m c ∗ Ow c 0 ∗ ((c : Thread nD τ).loc cc0_stg0_0 ↦{fullShare} xstg m ρ c)
      ∗ ((c : Thread nD τ).loc cc0_stg1_0 ↦{fullShare} fin m ρ c)) := by
  unfold BodyOut LeftSt RecvSt
  simp only [sep_bigSep]
  iintro ⟨#Hrec, ⟨HO, Hab, Hx, Ho, Hrow, Hslot, ⟨-, Has, Hrows⟩, ⟨-, Hslots, Har⟩, HW⟩, Hself⟩
  imod (cells_close m ρ K c) $$ [Hab Has Har Hself] with Hz
  · isplitr; · iexact Hrec
    iapply (over_all m ρ c)
    isplitl [Hab]; · iexact Hab
    isplitl [Has]; · iexact Has
    isplitl [Hself] <;> iassumption
  ihave HW := (WSt_close m c) $$ HW
  icases HW with ⟨Hw, Hsl, Hzw⟩
  ihave Hs := (rows_close m ρ c) $$ [Hrow Hrows]
  · isplitl [Hrow] <;> iassumption
  ihave Hb := (slots_close m ρ c) $$ [Hslot Hslots]
  · isplitl [Hslot] <;> iassumption
  imodintro
  unfold Φ₁
  isplitr [HO Hx Ho]
  · isplitl [Hz]; · iexact Hz
    isplitl [Hzw]; · iexact Hzw
    isplitl [Hw]; · iexact Hw
    isplitl [Hb]; · iexact Hb
    isplitl [Hs] <;> iassumption
  isplitl [HO]; · iexact HO
  isplitl [Hx] <;> iassumption

end Cert.A2A
-- ==== Proof.Launch.lean ====
/-
# The launch and the run

The proof data of the one pallas_call, the body's obligation, the ghost state the launch makes and deals to the devices, the
credits it starts them with, and the run: every device's result array holds `fin`, the arguments what they held, every
semaphore zero.
-/
module

public import proofs.«01_k».proof.Proof.Close
public import proofs.«01_k».proof.Proof.Gen.KernelIdeal.Points
public import Idealize.ShloMosaic.Lib.Quiescent
public import Idealize.ShloMosaic.Lib.Pipeline.CollectiveSegs

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => fin m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-! ## The body -/

theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m c ∗ (dats m ρ 0 c).owesAt () t₀.succ ∗ stg c cc0_stg0_0 (xstg m ρ c) ∗ stg c cc0_stg1_0 (fin m ρ c))

theorem before_x (c : Dev nD) (d) : (dats m ρ 0 c).before (0 : Fin 2) t₀ d = xstg m ρ c := by
  unfold Dat.before; rw [if_pos (fetch0_0 t₀)]; rfl

theorem post_intro (c : Dev nD) : iprop(Φ₁ m c ∗ Ow c 0 ∗ ((c : Thread nD τ).loc cc0_stg0_0 ↦{fullShare} xstg m ρ c)
      ∗ ((c : Thread nD τ).loc cc0_stg1_0 ↦{fullShare} fin m ρ c)) ⊢ bodyPost m ρ c := by
  unfold bodyPost Dat.owesAt Pipeline.owesWithin Ow
  rw [show (dats m ρ 0 c).owed t₀.succ = 0 from rfl]
  iintro ⟨HΦ, ⟨%W, HO⟩, Hx, Ho⟩
  isplitl [HΦ]; · iexact HΦ
  isplitl [HO]
  · iexists W; isplitr; · ipureintro; exact fun _ _ => Or.inl trivial
    iexact HO
  isplitl [Hx]
  · iexists _; isplitr; · (ipureintro; rfl)
    iexact Hx
  iexists _; isplitr; · (ipureintro; rfl)
  iexact Ho

theorem sound_body (c : Dev nD) {h0 h1 h2 h3 h4 h5} :
    bodyPre m ρ c ⊢ run c (cc0_body xM h0 wM h1 oM h2 bufM h3 sndM h4 wslM h5 cc0_scratch3 cc0_scratch4 cc0_scratch5) (fun _ => bodyPost m ρ c) := by
  unfold bodyPre Dat.owesAt Pipeline.owesWithin
  rw [show (dats m ρ 0 c).owed t₀.castSucc = O₀ c from rfl]
  iintro ⟨HΦ, ⟨%W, -, HO⟩, ⟨%d0, %g0, %hg0, Hx⟩, ⟨%d1, %g1, -, Hout⟩⟩
  have hx : g0 = xstg m ρ c := hg0.trans (before_x m ρ c d0)
  subst hx
  ihave H := (body_open m ρ c) $$ [HΦ HO Hx Hout]
  · isplitl [HΦ]; · iexact HΦ
    isplitl [HO]; · unfold Ow; iexists W; iexact HO
    isplitl [Hx]; · iexact Hx
    iexists g1; iexact Hout
  icases H with ⟨⟨%K, #Hrec⟩, HB, Hself⟩
  unfold run
  iapply (wp_fupd _ _)
  iapply (run_body m ρ K c (fun _ => iprop(|={Set.univ}=> bodyPost m ρ c))) $$ Hrec HB
  iintro HE
  imod (body_close m ρ K c) $$ [HE Hself] with H
  · isplitr; · iexact Hrec
    isplitl [HE] <;> iassumption
  imodintro
  iapply (post_intro m ρ c); iexact H

set_option maxRecDepth 16000 in
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [whole_owns]
  exact sound_body m ρ c

/-! ## The ghost state at launch -/

/-- The kernel's own semaphores: the sends', the receives', the streamed row blocks'. -/
abbrev osem : Fin 15 ⊕ (Fin 16 ⊕ Fin 3) → SemLoc sig
  | .inl j => .dma (sendS j)
  | .inr (.inl k) => .dma (recvS k)
  | .inr (.inr s) => .dma (wS s)

theorem ownSemFacts : Pipeline.OwnSemFacts cfg0.spec osem := by decide +kernel

theorem share_eq (c : Dev nD) (w : Fin cfg0.W) : (dats m ρ 0 c).share w = fullShare := by unfold Dat.share; split <;> rfl

theorem csem_inj : Function.Injective csem := by decide +kernel
theorem kcell_inj : Function.Injective (kcell : Dev nD × KI → GSem nD τ sig) := by
  rintro ⟨c, k⟩ ⟨c', k'⟩ h
  have h1 : c = c' := congrArg (fun g : GSem nD τ sig => g.1.1) h
  subst h1
  have h2 : csem k = csem k' := congrArg Prod.snd h
  obtain rfl : k = k' := csem_inj h2
  rfl
def cells : Finset (GSem nD τ sig) := Finset.univ.map ⟨kcell, kcell_inj⟩

/-- The duty tokens by who pays: device `c`'s entry signals, its transfers' departures and their arrivals. -/
abbrev TI : Type := Fin 15 ⊕ (Fin 15 ⊕ Fin 15)
def tokOf : Dev nD × TI → GSem nD τ sig × ℕ × Dev nD
  | (c, .inl j) => (barCell (up c (j.val + 1)), 0, c)
  | (c, .inr (.inl j)) => (sendCell c j, 0, c)
  | (c, .inr (.inr j)) => (recvCell (up c (j.val + 1)) c, 0, c)

theorem up_fin_inj (c : Dev nD) {j j' : Fin 15} (h : up c (j.val + 1) = up c (j'.val + 1)) : j = j' := by
  have := j.isLt; have := j'.isLt
  have := up_inj c (by omega) (by omega) h
  exact Fin.ext (by omega)

theorem tokOf_inj : Function.Injective tokOf := by
  rintro ⟨c, t⟩ ⟨c', t'⟩ h
  have h1 : c = c' := by
    have := congrArg (fun x : GSem nD τ sig × ℕ × Dev nD => x.2.2) h
    rcases t with j | j | j <;> rcases t' with j' | j' | j' <;> exact this
  subst h1
  have hs := congrArg (fun x : GSem nD τ sig × ℕ × Dev nD => x.1.2) h
  have hd := congrArg (fun x : GSem nD τ sig × ℕ × Dev nD => x.1.1.1) h
  rcases t with j | j | j <;> rcases t' with j' | j' | j'
  · rw [up_fin_inj c hd]
  · exact absurd hs (by rintro ⟨⟩)
  · exact absurd hs (by rintro ⟨⟩)
  · exact absurd hs (by rintro ⟨⟩)
  · have e : csem (.inr (.inl j)) = csem (.inr (.inl j')) := hs
    have := csem_inj e
    simp only [Sum.inr.injEq, Sum.inl.injEq] at this
    rw [this]
  · have e : csem (.inr (.inl j)) = csem (.inr (.inr c)) := hs
    exact absurd (csem_inj e) (by simp)
  · exact absurd hs (by rintro ⟨⟩)
  · have e : csem (.inr (.inr c)) = csem (.inr (.inl j')) := hs
    exact absurd (csem_inj e) (by simp)
  · rw [up_fin_inj c hd]
def tokens : Finset (GSem nD τ sig × ℕ × Dev nD) := Finset.univ.map ⟨tokOf, tokOf_inj⟩

def u₀ : UU := (initOf (Pipeline.cells cfgs cellOf_inj) (Pipeline.launchToks cfgs cellOf_inj), (initOf cells tokens, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s entry signals. -/
def barToks (c : Dev nD) : sProp 𝕄 := bigSep (Finset.Ico 1 16) fun d => dutyTok ER (barCell (up c d)) 0 c

theorem toks_of (c : Dev nD) : (bigSep Finset.univ fun t : TI => dutyTok ER (tokOf (c, t)).1 (tokOf (c, t)).2.1 (tokOf (c, t)).2.2 : sProp 𝕄)
    = iprop(barToks c ∗ toks c) := by
  rw [bigSep_univ_sum, bigSep_univ_sum, bigSep_sj, bigSep_sj, bigSep_sj]
  unfold barToks toks
  rw [sep_bigSep,
    bigSep_congr (s := Finset.Ico 1 16) (Ψ := fun d => (dutyTok ER (barCell (up c d)) 0 c : sProp 𝕄)) fun d hd => by
      show dutyTok ER (barCell (up c ((sj d).val + 1))) 0 c = _
      rw [sj_succ (Finset.mem_Ico.mp hd).1 (Finset.mem_Ico.mp hd).2],
    bigSep_congr (s := Finset.Ico 1 16) (Φ := fun d => dutyTok ER (tokOf (c, .inr (.inr (sj d)))).1 (tokOf (c, .inr (.inr (sj d)))).2.1 (tokOf (c, .inr (.inr (sj d)))).2.2)
      (Ψ := fun d => (dutyTok ER (recvCell (up c d) c) 0 c : sProp 𝕄)) fun d hd => by
      show dutyTok ER (recvCell (up c ((sj d).val + 1)) c) 0 c = _
      rw [sj_succ (Finset.mem_Ico.mp hd).1 (Finset.mem_Ico.mp hd).2]]
  rfl

/-- What the launch element deals device `c`, -/
def G (c : Dev nD) : sProp 𝕄 :=
  iprop((bigSep Finset.univ fun k : KI => roundState ER (Rd (F := F) m ρ) (kcell (c, k)) 0)
    ∗ (bigSep Finset.univ fun k : KI => reached ER (kcell (c, k)) 0) ∗ (bigSep Finset.univ fun k : KI => atPos ER (kcell (c, k)) 0 ∅ 0)
    ∗ barToks c ∗ toks c)
/-- its linear part, -/
def mine (c : Dev nD) : sProp 𝕄 :=
  iprop((bigSep Finset.univ fun k : KI => atPos ER (kcell (c, k)) 0 ∅ 0) ∗ barToks c ∗ toks c
    ∗ bigSep Finset.univ fun k : Fin 3 => semVal ((c : Thread nD τ), .dma (wS k)) 0)
/-- and what the global step makes of it. -/
def G' (c : Dev nD) : sProp 𝕄 := iprop((∃ K, records (F := F) m ρ K) ∗ mine c)

theorem fund_all : BI.own (ER (initOf cells tokens)) ⊢ (|==> bigSep Finset.univ (G (F := F) m ρ) : sProp 𝕄) := by
  have hX (Φ : GSem nD τ sig → sProp 𝕄) : bigSep cells Φ = bigSep Finset.univ fun c : Dev nD => bigSep Finset.univ fun k : KI => Φ (kcell (c, k)) := by
    unfold cells; rw [bigSep_map, bigSep_univ_prod]; rfl
  have hT : bigSep tokens (fun x => (dutyTok ER x.1 x.2.1 x.2.2 : sProp 𝕄)) = bigSep Finset.univ fun c : Dev nD => iprop(barToks c ∗ toks c) := by
    unfold tokens; rw [bigSep_map, bigSep_univ_prod]
    exact bigSep_congr fun c _ => toks_of c
  iintro HX
  imod (Rounds.fund ER (Rd (F := F) m ρ) cells tokens) $$ HX with ⟨Hst, Hr, Hat, Htok⟩
  imodintro
  ihave Hst := (Entails.of_eq (hX fun g => roundState ER (Rd (F := F) m ρ) g 0)) $$ Hst
  ihave Hat := (Entails.of_eq (hX fun g => atPos ER g 0 ∅ 0)) $$ Hat
  ihave Hr := (Entails.of_eq (hX fun g => reached ER g 0)) $$ Hr
  ihave Htok := (Entails.of_eq (hT.trans (sep_bigSep _ _ _))) $$ Htok
  unfold G; simp only [sep_bigSep]
  isplitl [Hst]; · iexact Hst
  isplitl [Hr]; · iexact Hr
  isplitl [Hat]; · iexact Hat
  iexact Htok

theorem univ_sum {I J : Type} [Fintype I] [Fintype J] (Φ : I ⊕ J → sProp 𝕄) :
    bigSep Finset.univ Φ = iprop(bigSep Finset.univ (fun a => Φ (.inl a)) ∗ bigSep Finset.univ fun b => Φ (.inr b)) := bigSep_univ_sum Φ
/-- The kernel's own semaphores and the barrier: the protocol's cells and the cells of the streamed row blocks. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : KI => semVal (kcell (c, k)) 0) ∗ bigSep Finset.univ fun k : Fin 3 => semVal ((c : Thread nD τ), .dma (wS k)) 0) : sProp 𝕄) := by
  unfold Pipeline.ownSems0
  rw [unscopedSems0_eq, univ_sum, univ_sum, univ_sum, univ_sum,
    show bigSep Finset.univ (fun a : Unit => (semVal (kcell (c, .inl a)) 0 : sProp 𝕄)) = semVal (barCell c) 0 from bigSep_singleton]
  iintro ⟨⟨H1, H2, H3⟩, H4⟩
  isplitr [H3]
  · isplitl [H4]; · iexact H4
    isplitl [H1]; · iexact H1
    iexact H2
  iexact H3
theorem sems_join (c : Dev nD) :
    (iprop((bigSep Finset.univ fun k : KI => semVal (kcell (c, k)) 0) ∗ bigSep Finset.univ fun k : Fin 3 => semVal ((c : Thread nD τ), .dma (wS k)) 0) : sProp 𝕄)
      ⊢ iprop(Pipeline.ownSems0 (Ix := Unit) (Name := ℕ) (U := UU) (Lvl := ℕ) (Val := Elt F) (τ := τ) osem c ∗ unscopedSems0 c) := by
  unfold Pipeline.ownSems0
  rw [unscopedSems0_eq, univ_sum, univ_sum, univ_sum, univ_sum,
    show bigSep Finset.univ (fun a : Unit => (semVal (kcell (c, .inl a)) 0 : sProp 𝕄)) = semVal (barCell c) 0 from bigSep_singleton]
  iintro ⟨⟨H4, H1, H2⟩, H3⟩
  isplitr [H4]
  · isplitl [H1]; · iexact H1
    isplitl [H2]; · iexact H2
    iexact H3
  iexact H4

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KI => iprop(∃ κ : ℕ, cellInv ER (Rd (F := F) m ρ) κ (kcell (c, k))))
          ∗ (bigSep Finset.univ fun k : KI => reached ER (kcell (c, k)) 0) ∗ mine c) := by
  unfold G mine
  iintro ⟨Hos, Hus, Hst, Hr, Hat, Hbt, Ht⟩
  ihave Hv := (sems_split (F := F) c) $$ [Hos Hus]
  · isplitl [Hos] <;> iassumption
  icases Hv with ⟨Hv, Hw⟩
  imod (show iprop((bigSep Finset.univ fun k : KI => semVal (kcell (c, k)) 0) ∗ bigSep Finset.univ fun k : KI => roundState ER (Rd (F := F) m ρ) (kcell (c, k)) 0)
      ⊢ (|={Set.univ}=> bigSep Finset.univ fun k : KI => iprop(∃ κ : ℕ, cellInv ER (Rd (F := F) m ρ) κ (kcell (c, k))) : sProp 𝕄) from
        (Entails.of_eq (sep_bigSep _ _ _).symm).trans
          ((bigSep_mono fun k _ => (Rounds.body_intro ER (Rd (F := F) m ρ) (kcell (c, k))).trans inv_alloc).trans (bigSep_fupd _ _))) $$ [Hv Hst] with Hinv
  · isplitl [Hv] <;> iassumption
  imodintro
  isplitl [Hinv]; · iexact Hinv
  isplitl [Hr]; · iexact Hr
  isplitl [Hat]; · iexact Hat
  isplitl [Hbt]; · iexact Hbt
  isplitl [Ht]; · iexact Ht
  iexact Hw

theorem regroup :
    (bigSep Finset.univ fun c : Dev nD => iprop((bigSep Finset.univ fun k : KI => iprop(∃ κ : ℕ, cellInv ER (Rd (F := F) m ρ) κ (kcell (c, k))))
          ∗ (bigSep Finset.univ fun k : KI => reached ER (kcell (c, k)) 0) ∗ mine c) : sProp 𝕄)
      ⊢ bigSep Finset.univ (G' m ρ) := by
  simp only [sep_bigSep]
  rw [← bigSep_univ_prod (fun ck : Dev nD × KI => iprop(∃ κ : ℕ, cellInv ER (Rd (F := F) m ρ) κ (kcell ck))),
    ← bigSep_univ_prod (fun ck : Dev nD × KI => (reached ER (kcell ck) 0 : sProp 𝕄))]
  iintro ⟨HI, #HR, Hm⟩
  ihave HK := (BI.bigSep_exists_pi Finset.univ (fun (ck : Dev nD × KI) (κ : ℕ) => (cellInv ER (Rd (F := F) m ρ) κ (kcell ck) : sProp 𝕄))) $$ HI
  icases HK with ⟨%K, #HI⟩
  iapply (bigSep_with_persistent (R := records (F := F) m ρ K) (Φ := mine) fun c _ => show _ ⊢ G' m ρ c by
    unfold G'
    iintro ⟨#H, Hm⟩
    isplitr; · iexists K; iexact H
    iexact Hm)
  isplitr
  · unfold records; isplitl; · iexact HI
    iexact HR
  · iexact Hm

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem sum_up {M : Type} [AddCommMonoid M] (d : Dev nD) (f : Dev nD → M) : ∑ i ∈ Finset.Ico 1 16, f (up d i) = ∑ p ∈ Finset.univ.erase d, f p := by
  rw [← map_up d]
  exact (Finset.sum_image fun a ha b hb h => up_inj d (Finset.mem_Ico.mp ha).2 (Finset.mem_Ico.mp hb).2 h).symm

theorem sum_at (d : Dev nD) (f : Dev nD → GSem nD τ sig) (g : GSem nD τ sig) (n : ℕ) :
    (∑ i ∈ Finset.Ico 1 16, tallyAt (f (up d i)) () n : CellTallies nD τ sig Unit) g () = ∑ p ∈ Finset.univ.erase d, if f p = g then n else 0 := by
  rw [Finset.sum_apply, Finsupp.finset_sum_apply, ← sum_up d]
  exact Finset.sum_congr rfl fun i _ => by
    rw [tallyAt_apply]
    by_cases h : f (up d i) = g
    · rw [if_pos ⟨h.symm, rfl⟩, if_pos h]
    · rw [if_neg (fun h' => h h'.1.symm), if_neg h]

theorem bar_iff {a b : Dev nD} : barCell a = barCell b ↔ a = b :=
  ⟨fun h => congrArg (fun g : GSem nD τ sig => g.1.1) h, fun h => h ▸ rfl⟩
theorem recv_iff {a b k k' : Dev nD} : recvCell a k = recvCell b k' ↔ a = b ∧ k = k' := by
  constructor
  · intro h
    have h2 : csem (.inr (.inr k)) = csem (.inr (.inr k')) := congrArg Prod.snd h
    have := csem_inj h2
    simp only [Sum.inr.injEq] at this
    exact ⟨congrArg (fun g : GSem nD τ sig => g.1.1) h, this⟩
  · rintro ⟨rfl, rfl⟩; rfl
theorem recv_ne_bar {a b k : Dev nD} : recvCell a k ≠ barCell b := fun h => by
  have h2 : csem (.inr (.inr k)) = csem (.inl ()) := congrArg Prod.snd h
  exact absurd (csem_inj h2) (by simp)

theorem owed_bar (d c : Dev nD) : O₀ d (barCell c) () = if c ∈ Finset.univ.erase d then 1 else 0 := by
  unfold O₀ oweRecv oweBar
  rw [Pi.add_apply, Finsupp.add_apply, sum_at d (fun p => recvCell p d), sum_at d barCell,
    Finset.sum_congr rfl fun p _ => if_neg (recv_ne_bar (a := p) (b := c) (k := d)), Finset.sum_const_zero, Nat.zero_add,
    Finset.sum_congr rfl fun p _ => if_congr (bar_iff (a := p) (b := c)) rfl rfl, Finset.sum_ite_eq']
theorem owed_recv (d c k : Dev nD) (hk : k ≠ c) : O₀ d (recvCell c k) () = if d = k then N else 0 := by
  unfold O₀ oweRecv oweBar
  rw [Pi.add_apply, Finsupp.add_apply, sum_at d (fun p => recvCell p d), sum_at d barCell,
    Finset.sum_congr (s₁ := Finset.univ.erase d) (g := fun _ => (0 : ℕ)) rfl fun p _ => if_neg (Ne.symm (recv_ne_bar (a := c) (b := p) (k := k))), Finset.sum_const_zero, Nat.add_zero]
  by_cases h : d = k
  · subst h
    rw [if_pos rfl, Finset.sum_congr rfl fun p _ => if_congr ((recv_iff (a := p) (b := c) (k := d) (k' := d)).trans (and_iff_left rfl)) rfl rfl,
      Finset.sum_ite_eq', if_pos (Finset.mem_erase.mpr ⟨hk.symm, Finset.mem_univ _⟩)]
  · rw [if_neg h]
    exact Finset.sum_eq_zero fun p _ => if_neg fun e => h (recv_iff.mp e).2

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c k : Dev nD) (hk : k ≠ c) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k hk, Finset.sum_ite_eq', if_pos (Finset.mem_univ _)]

theorem ends {A B C D : sProp 𝕄} : iprop(A ∗ B ∗ C ∗ D) ⊢ iprop(A ∗ D) := by
  iintro ⟨H1, -, -, H2⟩
  isplitl [H1] <;> iassumption
theorem creds (c : Dev nD) : (Pipeline.launchCred O₀ c : sProp 𝕄)
    ⊢ iprop(cred (tallyAt (barCell c) () 15) ∗ bigSep (Finset.Ico 1 16) fun d => cred (tallyAt (recvCell c (dn c d)) () N)) := by
  unfold Pipeline.launchCred
  refine (bigSep_subset (t := Finset.univ.map ⟨csem, csem_inj⟩) (Finset.subset_univ _)).trans ?_
  rw [bigSep_map, bigSep_KI c]
  exact ends.trans (BI.sep_mono (Entails.of_eq (congrArg cred (launch_bar c))) (bigSep_mono fun d hd =>
    Entails.of_eq (congrArg cred (launch_recv c (dn c d) (dn_ne c (Finset.mem_Ico.mp hd).1 (Finset.mem_Ico.mp hd).2)))))

/-! ## The side conditions -/

/-- What a device holds from its launch, beside its buffers. -/
def start (c : Dev nD) : sProp 𝕄 :=
  iprop(G' m ρ c ∗ levAts L lv ∗ cred (tallyAt (barCell c) () 15) ∗ bigSep (Finset.Ico 1 16) (fun d => cred (tallyAt (recvCell c (dn c d)) () N))
    ∗ ((c : Thread nD τ).loc main_arg1 ↦{fullShare} wAt m c))
/-- What it hands back at the end. -/
def finish (c : Dev nD) : sProp 𝕄 := iprop(unscopedSems0 c ∗ ((c : Thread nD τ).loc main_arg1 ↦{fullShare} wAt m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    isplitl [HN]; · iexact HN
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start G' mine barToks
  iintro ⟨⟨⟨HK, Hat, Hbt, Ht, Hz⟩, Hlev, H1, HN, Hw⟩, -, Hb, Hs, Hsl⟩
  isplitl [HK]; · iexact HK
  isplitl [Hat]; · iexact Hat
  isplitl [Hbt]; · iexact Hbt
  isplitl [Ht]; · iexact Ht
  isplitl [Hz]; · iexact Hz
  isplitl [Hlev]; · iexact Hlev
  isplitl [H1]; · iexact H1
  isplitl [HN]; · iexact HN
  isplitl [Hw]; · iexact Hw
  isplitl [Hb]; · iexact Hb
  isplitl [Hs]; · iexact Hs
  iexact Hsl

theorem phi1_exit (c : Dev nD) :
    (dats m ρ 0 c).Φ (Fin.last cfg0.N) ⊢ iprop(finish m c ∗ Pipeline.ownSems0 osem c ∗ Pipeline.scopedRest cfg0.spec c) := by
  rw [show (dats m ρ 0 c).Φ (Fin.last cfg0.N) = Φ₁ m c from rfl, scopedRest0_eq]
  unfold Φ₁ finish
  iintro ⟨Hz, Hzw, Hw, Hr⟩
  ihave Hv := (sems_join (F := F) c) $$ [Hz Hzw]
  · isplitl [Hz] <;> iassumption
  icases Hv with ⟨Ho, Hu⟩
  isplitl [Hu Hw]
  · isplitl [Hu] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem finish_read (c : Dev nD) (s' : Phys nD τ sig (Elt F)) : iprop(finish m c ∗ emp ∗ SI s')
    ⊢ |={Set.univ}=> (iprop(⌜(∀ sm : SemLoc sig, sm.isScoped .tc = false → s'.mem.sem ((c.tc : Thread nD τ), sm) = 0)
        ∧ s'.mem.mem ((c : Thread nD τ).loc main_arg1) = wAt m c⌝ ∗ SI s') : sProp 𝕄) := by
  unfold finish
  iintro ⟨⟨Hu, Hw⟩, -, HSI⟩
  imod (Pipeline.unscopedSems0_read (X := unscopedSems0 c) (c := c) fupd_intro s') $$ [Hu HSI] with ⟨%h1, HSI⟩
  · isplitl [Hu] <;> iassumption
  icombine HSI Hw gives %h2
  imodintro
  isplitr; · ipureintro; exact ⟨h1, funext fun i => h2 i (Finset.mem_univ i)⟩
  iexact HSI

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with zero counters every weakly fair run of @main ends, with each window's array at its final contents,
    `w` unchanged and every counter at zero. -/
theorem run_windows : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = wAt m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := finish m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wAt m c)
    (hY := finish_read m)
    (hQ := fun _ h hs => ⟨fun c => ⟨(h c).1, (h c).2.2.2⟩, sem_eq_zero hs fun c => (h c).2.2.1⟩)

/-- The `x` array is only read; -/
theorem finalA_x (c : Dev nD) : finalA m ρ c (0 : Fin 2) = m ((c : Thread nD τ).loc main_arg0) :=
  (dats (F := F) m ρ 0 c).arrAt_in (0 : Fin 2) rfl _
/-- the result array's one block is the whole array, which holds what the body left in its staging buffer; -/
theorem finalA_o (c : Dev nD) : finalA m ρ c (1 : Fin 2) = fin m ρ c := by
  have h : (win0_1.blk (0 : Fin 1)).view.read (Elt F) (finalA m ρ c (1 : Fin 2)) = fin m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  exact (Memref.read_access_unit_zero (Elt F) main_v1 hz (fun a => by fin_cases a <;> decide) _).symm.trans h
/-- and the staged block of `x` is the whole array too. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem run_main : θ_run defs (onTc (τ := τ) (main (F := F))) (s₀ m ρ) (fun r =>
    (∀ c : Dev nD, r.2.mem ((c : Thread nD τ).loc main_v1) = fin m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (finalA_o m ρ c), ((h.1 c).1 (0 : Fin 2)).trans (finalA_x m ρ c), (h.1 c).2⟩, h.2⟩)
    (run_windows m ρ)

end Cert.A2A
-- ==== Proof.Frames.lean ====
/-
# The frames

The arguments unchanged and every semaphore zero, of the kernel at the machine's values, of the same program over the reals,
and of the reference.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.A2A

open Idealize.ShloMosaic Idealize.ShloMosaic.TcCoe Idealize.SL.Sem

open Cert.KernelIdeal in
/-- Over any float values the run ends with the arguments unchanged and every semaphore at zero: the run with its result dropped. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main m ρ)

/-- The frame over the reals. -/
theorem frame_ideal : Cert.quiescent_KernelIdeal := fun m ρ _ => frame_any (F := Ideal) m ρ

/-- The kernel at the machine's values and the kernel over the reals are one text: the same bodies under every label. -/
theorem defs₀_eq {F : FTy → Type} [FloatOps F] : Cert.Kernel.defs₀ (F := F) = Cert.KernelIdeal.defs₀ (F := F) := by
  refine congrArg Defs.onTc (funext fun l => ?_)
  match l with
  | 0 => rfl

/-- So are the tables of bodies around them. -/
theorem defs_eq {F : FTy → Type} [FloatOps F] : Cert.Kernel.defs (F := F) = Cert.KernelIdeal.defs (F := F) :=
  congrArg (Pipeline.defs Cert.KernelIdeal.pcfgs) defs₀_eq

/-- The frame at the machine's values, from the run written once. -/
theorem frame_kernel : Cert.quiescent_Kernel := by
  intro m ρ _
  rw [defs_eq]
  exact frame_any (F := Bits) m ρ

/-- The reference's frame: it has no semaphores. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.A2A
-- ==== Proof.Value.lean ====
/-
# The value over the reals

Over the extended reals a change of format is the identity and a product is its sum, so the accumulator after the last step is
the sum over the sixteen row blocks of `w`, each against the block of `x` received from the device that holds those columns of
`x`. The blocks are taken in the order `c, c - 1, …, c - 15` around the ring; together they are the sum over all 4096 columns
of `x` that the reference's one product takes. The activation is the same expression, up to the association of `y³`.
-/
module

public import proofs.«01_k».proof.Defs
public import proofs.«01_k».proof.Proof.Launch
public import proofs.«01_k».proof.Proof.Gen.ReferenceIdeal.Run
public import Idealize.ShloMosaic.Lib.MatmulPlain
public import Idealize.ShloMosaic.Lib.KernelVsHost
public import Idealize.ShloMosaic.Lib.StackMember
public import Idealize.ShloMosaic.Lib.Pointwise.Sums
public import Idealize.ShloMosaic.Lib.Pipeline.Value
public import Idealize.ShloMosaic.Lib.ValueIdx

@[expose] public section

noncomputable section

namespace Cert.A2A

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (ρ : Dev nD → PrngReg)

/-! ## Blocks at an index -/

/-- Device `c`'s columns of `x`, and its copy of `w`, as functions of row and column. -/
def xs (c : Dev nD) (r : Fin 4096) (k : Fin 256) : EReal := m ((c : Thread nD τ).loc main_arg0) (ValueIdx.ix2 r k)
def ws (c : Dev nD) (r : Fin 4096) (j : Fin 8192) : EReal := m ((c : Thread nD τ).loc main_arg1) (ValueIdx.ix2 r j)

/-- Row `i` of block `k`. -/
def rowOf (k : Fin 16) (i : Fin 256) : Fin 4096 := ⟨k.val * 256 + i.val, by omega⟩

theorem snd_eq (c : Dev nD) (r : Fin 4096) (k : Fin 256) : snd m ρ c (ValueIdx.ix2 r k) = xs m c r k := by
  unfold snd k0_pay1 xs
  rw [shapeCast_self, shapeCast_self, xstg_eq]
  rfl

theorem blk_eq (c : Dev nD) (k : Fin 16) (i j : Fin 256) : blk m ρ c k (ValueIdx.ix2 i j) = xs m c (rowOf k i) j := by
  rw [← snd_eq m ρ]
  refine congrArg (snd m ρ c) (Shape.idx_ext₂ ?_ ?_)
  · show 256 * k.val + 1 * i.val = k.val * 256 + i.val; omega
  · show 0 + 1 * j.val = j.val; omega

theorem wrow_eq (c : Dev nD) (k : Fin 16) (i : Fin 256) (j : Fin 8192) : wrow m c k (ValueIdx.ix2 i j) = ws m c (rowOf k i) j := by
  refine congrArg (m ((c : Thread nD τ).loc main_arg1)) (Shape.idx_ext₂ ?_ ?_)
  · show 256 * k.val + 1 * i.val = k.val * 256 + i.val; omega
  · show 0 + 1 * j.val = j.val; omega

/-! ## The accumulator -/

/-- What step `u` adds at `(i, j)`. -/
def term (c : Dev nD) (u : ℕ) (i : Fin 256) (j : Fin 8192) : EReal :=
  ∑ k : Fin 256, xs m (dn c u) (rowOf c i) k * ws m c (rowOf (dn c u) k) j

theorem ablk_cast (c : Dev nD) (u : ℕ) : shapeCast S256x256 (ablk m ρ c u) shapeCasts_S1x256x256_S256x256 = blk m ρ (dn c u) c :=
  shapeCast_shapeCast _ _ _
theorem wblk_cast (c : Dev nD) (u : ℕ) : shapeCast S256x8192 (wblk m c u) shapeCasts_S1x256x8192_S256x8192 = wrow m c (dn c u) :=
  shapeCast_shapeCast _ _ _

/-- A product into a zero accumulator, at an index. -/
theorem product {N : ℕ} (lhs : FVec Ideal ⟨2, ![256, 256]⟩ .bf16) (rhs : FVec Ideal ⟨2, ![256, N]⟩ .bf16) (i : Fin 256) (j : Fin N) :
    matmul (DotDims.plain 256 256 N) none lhs rhs (constant ⟨2, ![256, N]⟩ .f32 0x00000000#32) (ValueIdx.ix2 i j)
      = ∑ k : Fin 256, lhs (ValueIdx.ix2 i k) * rhs (ValueIdx.ix2 k j) := by
  rw [matmul_zero_eq_dotGeneral]; exact StackMember.dotGeneral_plain_apply _ _ _ _ _

/-- Step `u`'s product. -/
theorem step_eq (c : Dev nD) (u : ℕ) (i : Fin 256) (j : Fin 8192) :
    matmul dot_S256x256_S256x8192_S256x8192_1_0_0_1_n_n none
      (shapeCast S256x256 (ablk m ρ c u) shapeCasts_S1x256x256_S256x256 : FVec Ideal S256x256 .bf16)
      (truncf .bf16 (shapeCast S256x8192 (wblk m c u) shapeCasts_S1x256x8192_S256x8192 : FVec Ideal S256x8192 .f32) bitsLt_bf16_f32)
      (constant S256x8192 .f32 0x00000000#32) (ValueIdx.ix2 i j) = term m c u i j := by
  rw [ablk_cast, wblk_cast]
  refine (product _ _ i j).trans (Finset.sum_congr rfl fun k _ => ?_)
  rw [blk_eq, truncf_apply, wrow_eq]

theorem accv_eq (c : Dev nD) (i : Fin 256) (j : Fin 8192) : ∀ u : ℕ, accv m ρ c u (ValueIdx.ix2 i j) = ∑ v ∈ Finset.range (u + 1), term m c v i j
  | 0 => by
    rw [Finset.sum_range_one]
    exact step_eq m ρ c 0 i j
  | u + 1 => by
    rw [Finset.sum_range_succ, ← accv_eq c i j u, ← step_eq m ρ c (u + 1) i j]
    show k0_pay5 _ _ _ _ = _
    unfold k0_pay5
    rw [shapeCast_self]
    rfl

/-! ## The last step -/

/-- The activation, as the kernel writes it. -/
def act (y : EReal) : EReal :=
  (Ideal.ofBits .f32 0x3F000000#32 * y) * (Ideal.ofBits .f32 0x3F800000#32
    + Ideal.tanh (Ideal.ofBits .f32 0x3F4C422A#32 * (y + ((Ideal.ofBits .f32 0x3D372713#32 * y) * y) * y)))

/-- Column `j` of chunk `q`. -/
def colOf (q : Fin 4) (j : Fin 2048) : Fin 8192 := ⟨2048 * q.val + j.val, by omega⟩

theorem orect_emb (q : Fin 4) (i : Fin 256) (j : Fin 2048) :
    (oM.access (orect q)).emb (ValueIdx.ix2 i j) = (ValueIdx.ix2 i (colOf q j) : S256x8192.Idx) := by
  refine Shape.idx_ext₂ ?_ ?_
  · show 0 + 1 * i.val = i.val; omega
  · show 2048 * q.val + 1 * j.val = 2048 * q.val + j.val; omega

theorem wchunk_eq (c : Dev nD) (u : ℕ) (q : Fin 4) (k : Fin 256) (j : Fin 2048) :
    shapeCast S256x2048 (wchunk (wblk m c u) q) shapeCasts_S1x256x2048_S256x2048 (ValueIdx.ix2 k j) = ws m c (rowOf (dn c u) k) (colOf q j) := by
  rw [← wrow_eq]
  refine (shapeCast_dropUnit_apply ![256, 2048] (wchunk (wblk m c u) q) _ (ValueIdx.ix2 k j)).trans ?_
  refine (shapeCast_addUnit_apply ![256, 8192] (wrow m c (dn c u)) _ _).trans (congrArg (wrow m c (dn c u)) (Shape.idx_ext₂ ?_ ?_))
  · show 0 + 1 * k.val = k.val; omega
  · show 2048 * q.val + 1 * j.val = 2048 * q.val + j.val; omega

theorem tail_product (c : Dev nD) (q : Fin 4) (i : Fin 256) (j : Fin 2048) :
    matmul dot_S256x256_S256x2048_S256x2048_1_0_0_1_n_n none
      (shapeCast S256x256 (ablk m ρ c 15) shapeCasts_S1x256x256_S256x256 : FVec Ideal S256x256 .bf16)
      (truncf .bf16 (shapeCast S256x2048 (wchunk (wblk m c 15) q) shapeCasts_S1x256x2048_S256x2048 : FVec Ideal S256x2048 .f32) bitsLt_bf16_f32)
      (constant S256x2048 .f32 0x00000000#32) (ValueIdx.ix2 i j) = term m c 15 i (colOf q j) := by
  rw [ablk_cast]
  refine (product _ _ i j).trans (Finset.sum_congr rfl fun k _ => ?_)
  rw [blk_eq, truncf_apply, wchunk_eq]

/-- On its own columns the last step adds and activates; -/
theorem tailStep_on (c : Dev nD) (q : Fin 4) (f : Vec Ideal S256x8192 .f32) (i : Fin 256) (j : Fin 2048) :
    tailStep m ρ c q f (ValueIdx.ix2 i (colOf q j)) = act (f (ValueIdx.ix2 i (colOf q j)) + term m c 15 i (colOf q j)) := by
  have e : ochunk f q (ValueIdx.ix2 i j) = f (ValueIdx.ix2 i (colOf q j)) := congrArg f (orect_emb q i j)
  unfold tailStep
  rw [← orect_emb q i j, View.write_emb_of_mem _ _ (Finset.mem_univ _), orect_emb, ← tail_product m ρ, ← e]
  unfold k0_pay25
  rw [shapeCast_self]
  rfl

/-- on the other columns it leaves the block as it was. -/
theorem tailStep_off (c : Dev nD) (q : Fin 4) (f : Vec Ideal S256x8192 .f32) (i : Fin 256) {p : Fin 4} (hp : p ≠ q) (j : Fin 2048) :
    tailStep m ρ c q f (ValueIdx.ix2 i (colOf p j)) = f (ValueIdx.ix2 i (colOf p j)) := by
  refine View.write_of_not_mem _ _ _ fun h => ?_
  obtain ⟨x, -, hx⟩ := Finset.mem_map.mp h
  rw [ValueIdx.eq_ix2 x] at hx
  have h1 := congrArg Fin.val (congrFun ((orect_emb q (x 0) (x 1)).symm.trans hx) 1)
  change 2048 * q.val + (x 1).val = 2048 * p.val + j.val at h1
  have h2 : (x 1).val < 2048 := (x 1).isLt
  exact hp (Fin.ext (by omega))

/-- The block the device leaves: the activation of the sum over all sixteen steps. -/
theorem fin_eq (c : Dev nD) (i : Fin 256) (j : Fin 8192) :
    fin m ρ c (ValueIdx.ix2 i j) = act (∑ v ∈ Finset.range 16, term m c v i j) := by
  obtain ⟨q, j, rfl⟩ : ∃ q j', j = colOf q j' :=
    ⟨⟨j.val / 2048, by omega⟩, ⟨j.val % 2048, by omega⟩, Fin.ext (by show _ = 2048 * (j.val / 2048) + j.val % 2048; omega)⟩
  rw [Finset.sum_range_succ, ← accv_eq m ρ c i _ 14]
  unfold fin
  fin_cases q
  all_goals simp only [Fin.mk_zero, Fin.mk_one, Fin.reduceFinMk, Fin.zero_eta]
  · rw [tailStep_off _ _ _ _ _ _ (by decide), tailStep_off _ _ _ _ _ _ (by decide), tailStep_off _ _ _ _ _ _ (by decide), tailStep_on]
  · rw [tailStep_off _ _ _ _ _ _ (by decide), tailStep_off _ _ _ _ _ _ (by decide), tailStep_on, tailStep_off _ _ _ _ _ _ (by decide)]
  · rw [tailStep_off _ _ _ _ _ _ (by decide), tailStep_on, tailStep_off _ _ _ _ _ _ (by decide), tailStep_off _ _ _ _ _ _ (by decide)]
  · rw [tailStep_on, tailStep_off _ _ _ _ _ _ (by decide), tailStep_off _ _ _ _ _ _ (by decide), tailStep_off _ _ _ _ _ _ (by decide)]

/-! ## The reference -/

/-- The activation as the reference writes it: the cube of the product times the constant. -/
theorem act_eq (y : EReal) : (Ideal.ofBits .f32 0x3F000000#32 * y) * (Ideal.ofBits .f32 0x3F800000#32
    + Ideal.tanh (Ideal.ofBits .f32 0x3F4C422A#32 * (y + Ideal.ofBits .f32 0x3D372713#32 * ((y * y) * y)))) = act y := by
  unfold act
  rw [mul_assoc (Ideal.ofBits .f32 0x3D372713#32) y y, mul_assoc (Ideal.ofBits .f32 0x3D372713#32) (y * y) y]

/-- The sum over the ring's steps is the sum over the sixteen blocks, in any order. -/
theorem sum_ring (c : Dev nD) (f : Dev nD → EReal) : ∑ v ∈ Finset.range 16, f (dn c v) = ∑ k : Fin 16, f k := by
  have e := map_dn c
  rw [← Finset.range_eq_Ico] at e
  show _ = ∑ k : Dev nD, f k
  rw [← e, Finset.sum_image]
  exact fun a ha b hb h => dn_inj c (Finset.mem_range.mp ha) (Finset.mem_range.mp hb) h

/-- Where every device's columns of `x` are its block of one array and every device's `w` is one array, the sum over the steps is
    the row of the whole product. -/
theorem sum_term (X : (⟨2, ![4096, 4096]⟩ : Shape).Idx → EReal) (W : (⟨2, ![4096, 8192]⟩ : Shape).Idx → EReal)
    (hx : ∀ c : Dev nD, m ((c : Thread nD τ).loc main_arg0) = Layout.block ⟨2, ![4096, 256]⟩ ⟨2, ![4096, 4096]⟩ 1 16 c X)
    (hw : ∀ c : Dev nD, m ((c : Thread nD τ).loc main_arg1) = W) (c : Dev nD) (i : Fin 256) (j : Fin 8192) :
    ∑ v ∈ Finset.range 16, term m c v i j = ∑ k : Fin 4096, X (ValueIdx.ix2 (rowOf c i) k) * W (ValueIdx.ix2 k j) := by
  rw [Fin.sum_univ_tiles 16 256 rfl]
  refine (sum_ring c fun p => ∑ k : Fin 256, xs m p (rowOf c i) k * ws m c (rowOf p k) j).trans ?_
  refine Finset.sum_congr rfl fun p _ => Finset.sum_congr rfl fun k _ => ?_
  unfold xs ws
  rw [hx, hw]
  refine congrArg₂ (· * ·) (congrArg X (Shape.idx_ext₂ rfl rfl)) rfl

/-- The reference's value at an index. -/
theorem reference_eq (X : (⟨2, ![4096, 4096]⟩ : Shape).Idx → EReal) (W : (⟨2, ![4096, 8192]⟩ : Shape).Idx → EReal) (r : Fin 4096) (j : Fin 8192) :
    Host.dotGeneral (F := Ideal) (φ₁ := .f32) (φ₂ := .f32) Cert.ReferenceIdeal.dot_S4096x4096_S4096x8192_S4096x8192_1_0_0_1_n_n none X W (ValueIdx.ix2 r j)
      = ∑ k : Fin 4096, X (ValueIdx.ix2 r k) * W (ValueIdx.ix2 k j) :=
  StackMember.dotGeneral_plain_apply none X W r j

/-- Each device ends with its rows of the reference's result. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run defs _ _).mono (fun _ h c => ⟨(h.1 c).1.trans ?_, (h.1 c).2⟩) (run_main (F := Ideal) m ρ)
  funext x
  obtain ⟨i, j, rfl⟩ : ∃ (i : Fin 256) (j : Fin 8192), x = ValueIdx.ix2 i j := ⟨x 0, x 1, ValueIdx.eq_ix2 x⟩
  refine (fin_eq m ρ c i j).trans ?_
  rw [sum_term m _ _ (fun c => (hagree c).1) (fun c => (hagree c).2), ← reference_eq, ← act_eq, Layout.block_apply]
  have e : ∀ h : Layout.Tiles ⟨2, ![256, 8192]⟩ ⟨2, ![4096, 8192]⟩ 0 16, h.idx c (ValueIdx.ix2 i j) = ValueIdx.ix2 (rowOf c i) j :=
    fun h => Shape.idx_ext₂ rfl rfl
  rw [e]
  rfl

end Cert.A2A

end
-- ==== Proof.lean ====
/-
# The claims together

The three frames (the arguments unchanged, every semaphore back at zero), the kernel over the reals being the kernel's own text,
and each device's result being its rows of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.A2A.frame_kernel, Cert.A2A.frame_ideal, Cert.A2A.frame_ref, trivial, Cert.A2A.algebraic⟩

end Cert.Proof

end
